-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg1) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_v79) = v4 c
          ∧ r.2.mem ((c.tc : Thread Cert.ReferenceIdeal.nD Cert.ReferenceIdeal.τ).loc Cert.ReferenceIdeal.main_v110) = v5 c
          ∧ r.2.mem ((c.tc : Thread Cert.ReferenceIdeal.nD Cert.ReferenceIdeal.τ).loc Cert.ReferenceIdeal.main_arg1) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2x128 : Shape := ⟨3, ![16384, 2, 128]⟩
abbrev S16384x1 : Shape := ⟨2, ![16384, 1]⟩
abbrev S128x64 : Shape := ⟨2, ![128, 64]⟩
abbrev S64 : Shape := ⟨1, ![64]⟩
abbrev S64x18 : Shape := ⟨2, ![64, 18]⟩
abbrev S18 : Shape := ⟨1, ![18]⟩
abbrev S259x64 : Shape := ⟨2, ![259, 64]⟩
abbrev S64x576 : Shape := ⟨2, ![64, 576]⟩
abbrev S576 : Shape := ⟨1, ![576]⟩
abbrev S18x16384 : Shape := ⟨2, ![18, 16384]⟩
abbrev S576x18 : Shape := ⟨2, ![576, 18]⟩
abbrev S32x576 : Shape := ⟨2, ![32, 576]⟩
abbrev S64x128 : Shape := ⟨2, ![64, 128]⟩
abbrev S64x1 : Shape := ⟨2, ![64, 1]⟩
abbrev S18x64 : Shape := ⟨2, ![18, 64]⟩
abbrev S18x1 : Shape := ⟨2, ![18, 1]⟩
abbrev S64x259 : Shape := ⟨2, ![64, 259]⟩
abbrev S576x64 : Shape := ⟨2, ![576, 64]⟩
abbrev S18x32 : Shape := ⟨2, ![18, 32]⟩
abbrev S32x18 : Shape := ⟨2, ![32, 18]⟩
abbrev S2x32x16384 : Shape := ⟨3, ![2, 32, 16384]⟩
abbrev S2x16384 : Shape := ⟨2, ![2, 16384]⟩
abbrev S18x1x16384 : Shape := ⟨3, ![18, 1, 16384]⟩
abbrev S1x1 : Shape := ⟨2, ![1, 1]⟩
abbrev S2x16384x32 : Shape := ⟨3, ![2, 16384, 32]⟩
abbrev S16384x2 : Shape := ⟨2, ![16384, 2]⟩
abbrev S16384x1x18 : Shape := ⟨3, ![16384, 1, 18]⟩
abbrev S_ : Shape := ⟨0, ![]⟩
abbrev S4096x2x128 : Shape := ⟨3, ![4096, 2, 128]⟩
abbrev S18x4096 : Shape := ⟨2, ![18, 4096]⟩
abbrev S2x32x4096 : Shape := ⟨3, ![2, 32, 4096]⟩
abbrev S2x4096 : Shape := ⟨2, ![2, 4096]⟩
abbrev S18x1x4096 : Shape := ⟨3, ![18, 1, 4096]⟩
abbrev S4096x1x128 : Shape := ⟨3, ![4096, 1, 128]⟩
abbrev S4096x128 : Shape := ⟨2, ![4096, 128]⟩
abbrev S64x4096 : Shape := ⟨2, ![64, 4096]⟩
abbrev S4096 : Shape := ⟨1, ![4096]⟩
abbrev S1x4096 : Shape := ⟨2, ![1, 4096]⟩
abbrev S1x18x4096 : Shape := ⟨3, ![1, 18, 4096]⟩
abbrev S1 : Shape := ⟨1, ![1]⟩
abbrev S1x1x1 : Shape := ⟨3, ![1, 1, 1]⟩
abbrev S64x2 : Shape := ⟨2, ![64, 2]⟩
abbrev S576x4096 : Shape := ⟨2, ![576, 4096]⟩
abbrev S32x4096 : Shape := ⟨2, ![32, 4096]⟩
abbrev S1x32x4096 : Shape := ⟨3, ![1, 32, 4096]⟩

abbrev nBuf : Space → Nat
  | .hbm => 44
  | .vmem => 28
  | .smem => 0
  | _ => 0

abbrev bufTy : (tb : Table) → Fin (tcTables nBuf tb) → BufTy
  | .hbm, ⟨0, _⟩ => ⟨S16384x2x128, .f32⟩
  | .hbm, ⟨1, _⟩ => ⟨S16384x1, .f32⟩
  | .hbm, ⟨2, _⟩ => ⟨S16384x1, .f32⟩
  | .hbm, ⟨3, _⟩ => ⟨S128x64, .f32⟩
  | .hbm, ⟨4, _⟩ => ⟨S64, .f32⟩
  | .hbm, ⟨5, _⟩ => ⟨S64x18, .f32⟩
  | .hbm, ⟨6, _⟩ => ⟨S18, .f32⟩
  | .hbm, ⟨7, _⟩ => ⟨S64x18, .f32⟩
  | .hbm, ⟨8, _⟩ => ⟨S18, .f32⟩
  | .hbm, ⟨9, _⟩ => ⟨S259x64, .f32⟩
  | .hbm, ⟨10, _⟩ => ⟨S64, .f32⟩
  | .hbm, ⟨11, _⟩ => ⟨S64x576, .f32⟩
  | .hbm, ⟨12, _⟩ => ⟨S576, .f32⟩
  | .hbm, ⟨13, _⟩ => ⟨S18x16384, .f32⟩
  | .hbm, ⟨14, _⟩ => ⟨S18x16384, .f32⟩
  | .hbm, ⟨15, _⟩ => ⟨S576x18, .f32⟩
  | .hbm, ⟨16, _⟩ => ⟨S32x576, .f32⟩
  | .hbm, ⟨17, _⟩ => ⟨S64x128, .f32⟩
  | .hbm, ⟨18, _⟩ => ⟨S64x1, .f32⟩
  | .hbm, ⟨19, _⟩ => ⟨S18x64, .f32⟩
  | .hbm, ⟨20, _⟩ => ⟨S18x1, .f32⟩
  | .hbm, ⟨21, _⟩ => ⟨S18x64, .f32⟩
  | .hbm, ⟨22, _⟩ => ⟨S18x1, .f32⟩
  | .hbm, ⟨23, _⟩ => ⟨S64x259, .f32⟩
  | .hbm, ⟨24, _⟩ => ⟨S64x1, .f32⟩
  | .hbm, ⟨25, _⟩ => ⟨S576x64, .f32⟩
  | .hbm, ⟨26, _⟩ => ⟨S18x32, .f32⟩
  | .hbm, ⟨27, _⟩ => ⟨S32x18, .f32⟩
  | .hbm, ⟨28, _⟩ => ⟨S2x32x16384, .f32⟩
  | .hbm, ⟨29, _⟩ => ⟨S2x16384, .i32⟩
  | .hbm, ⟨30, _⟩ => ⟨S2x16384, .f32⟩
  | .hbm, ⟨31, _⟩ => ⟨S18x1x16384, .f32⟩
  | .hbm, ⟨32, _⟩ => ⟨S1x1, .f32⟩
  | .hbm, ⟨33, _⟩ => ⟨S1x1, .f32⟩
  | .hbm, ⟨34, _⟩ => ⟨S2x16384x32, .f32⟩
  | .hbm, ⟨35, _⟩ => ⟨S16384x2, .i32⟩
  | .hbm, ⟨36, _⟩ => ⟨S16384x2, .f32⟩
  | .hbm, ⟨37, _⟩ => ⟨S16384x1x18, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S4096x2x128, .f32⟩
  | .local _ .vmem, ⟨1, _⟩ => ⟨S4096x2x128, .f32⟩
  | .local _ .vmem, ⟨2, _⟩ => ⟨S18x4096, .f32⟩
  | .local _ .vmem, ⟨3, _⟩ => ⟨S18x4096, .f32⟩
  | .local _ .vmem, ⟨4, _⟩ => ⟨S18x4096, .f32⟩
  | .local _ .vmem, ⟨5, _⟩ => ⟨S18x4096, .f32⟩
  | .local _ .vmem, ⟨6, _⟩ => ⟨S64x128, .f32⟩
  | .local _ .vmem, ⟨7, _⟩ => ⟨S64x1, .f32⟩
  | .local _ .vmem, ⟨8, _⟩ => ⟨S18x64, .f32⟩
  | .local _ .vmem, ⟨9, _⟩ => ⟨S18x1, .f32⟩
  | .local _ .vmem, ⟨10, _⟩ => ⟨S18x64, .f32⟩
  | .local _ .vmem, ⟨11, _⟩ => ⟨S18x1, .f32⟩
  | .local _ .vmem, ⟨12, _⟩ => ⟨S64x259, .f32⟩
  | .local _ .vmem, ⟨13, _⟩ => ⟨S64x1, .f32⟩
  | .local _ .vmem, ⟨14, _⟩ => ⟨S576x64, .f32⟩
  | .local _ .vmem, ⟨15, _⟩ => ⟨S32x18, .f32⟩
  | .local _ .vmem, ⟨16, _⟩ => ⟨S576x18, .f32⟩
  | .local _ .vmem, ⟨17, _⟩ => ⟨S32x576, .f32⟩
  | .local _ .vmem, ⟨18, _⟩ => ⟨S2x32x4096, .f32⟩
  | .local _ .vmem, ⟨19, _⟩ => ⟨S2x32x4096, .f32⟩
  | .local _ .vmem, ⟨20, _⟩ => ⟨S2x4096, .i32⟩
  | .local _ .vmem, ⟨21, _⟩ => ⟨S2x4096, .i32⟩
  | .local _ .vmem, ⟨22, _⟩ => ⟨S2x4096, .f32⟩
  | .local _ .vmem, ⟨23, _⟩ => ⟨S2x4096, .f32⟩
  | .local _ .vmem, ⟨24, _⟩ => ⟨S18x1x4096, .f32⟩
  | .local _ .vmem, ⟨25, _⟩ => ⟨S18x1x4096, .f32⟩
  | .local _ .vmem, ⟨26, _⟩ => ⟨S1x1, .f32⟩
  | .local _ .vmem, ⟨27, _⟩ => ⟨S1x1, .f32⟩
  | _, _ => ⟨S16384x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_cst : Ref sig .tc := ⟨.hbm, 15, rfl⟩
abbrev main_call0_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11_0 : Ref sig .tc := ⟨.hbm, 28, rfl⟩
abbrev main_call0_v11_1 : Ref sig .tc := ⟨.hbm, 29, rfl⟩
abbrev main_call0_v11_2 : Ref sig .tc := ⟨.hbm, 30, rfl⟩
abbrev main_call0_v11_3 : Ref sig .tc := ⟨.hbm, 31, rfl⟩
abbrev main_call0_v11_4 : Ref sig .tc := ⟨.hbm, 32, rfl⟩
abbrev main_call0_v11_5 : Ref sig .tc := ⟨.hbm, 33, rfl⟩
abbrev main_v0_0 : Ref sig .tc := ⟨.hbm, 34, rfl⟩
abbrev main_v0_1 : Ref sig .tc := ⟨.hbm, 35, rfl⟩
abbrev main_v0_2 : Ref sig .tc := ⟨.hbm, 36, rfl⟩
abbrev main_v0_4 : Ref sig .tc := ⟨.hbm, 37, rfl⟩
abbrev main_call0_v16 : Ref sig .tc := ⟨.hbm, 38, rfl⟩
abbrev main_call0_cst_1 : Ref sig .tc := ⟨.hbm, 39, rfl⟩
abbrev main_v0_3 : Ref sig .tc := ⟨.hbm, 40, rfl⟩
abbrev main_call0_v18 : Ref sig .tc := ⟨.hbm, 41, rfl⟩
abbrev main_call0_cst_2 : Ref sig .tc := ⟨.hbm, 42, rfl⟩
abbrev main_v0_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg20_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem20_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S18x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S18x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S18x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S18x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S18x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S18x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x259 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S576x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x18 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S576x18 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x576 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x32x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x4096 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S18x1x4096 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S16384x2x128 : Shape := ⟨3, ![16384, 2, 128]⟩
abbrev S16384x1 : Shape := ⟨2, ![16384, 1]⟩
abbrev S128x64 : Shape := ⟨2, ![128, 64]⟩
abbrev S64 : Shape := ⟨1, ![64]⟩
abbrev S64x18 : Shape := ⟨2, ![64, 18]⟩
abbrev S18 : Shape := ⟨1, ![18]⟩
abbrev S259x64 : Shape := ⟨2, ![259, 64]⟩
abbrev S64x576 : Shape := ⟨2, ![64, 576]⟩
abbrev S576 : Shape := ⟨1, ![576]⟩
abbrev S18x16384 : Shape := ⟨2, ![18, 16384]⟩
abbrev S2x16384x128 : Shape := ⟨3, ![2, 16384, 128]⟩
abbrev S1x16384x128 : Shape := ⟨3, ![1, 16384, 128]⟩
abbrev S16384x128 : Shape := ⟨2, ![16384, 128]⟩
abbrev S16384x64 : Shape := ⟨2, ![16384, 64]⟩
abbrev S1x64 : Shape := ⟨2, ![1, 64]⟩
abbrev S16384x18 : Shape := ⟨2, ![16384, 18]⟩
abbrev S1x18 : Shape := ⟨2, ![1, 18]⟩
abbrev S16384x1x18 : Shape := ⟨3, ![16384, 1, 18]⟩
abbrev S_ : Shape := ⟨0, ![]⟩
abbrev S16384x1x1 : Shape := ⟨3, ![16384, 1, 1]⟩
abbrev S16384 : Shape := ⟨1, ![16384]⟩
abbrev S1 : Shape := ⟨1, ![1]⟩
abbrev S1x1x1 : Shape := ⟨3, ![1, 1, 1]⟩
abbrev S16384x2 : Shape := ⟨2, ![16384, 2]⟩
abbrev S16384x256 : Shape := ⟨2, ![16384, 256]⟩
abbrev S16384x259 : Shape := ⟨2, ![16384, 259]⟩
abbrev S16384x576 : Shape := ⟨2, ![16384, 576]⟩
abbrev S1x576 : Shape := ⟨2, ![1, 576]⟩
abbrev S16384x18x32 : Shape := ⟨3, ![16384, 18, 32]⟩
abbrev S16384x1x32 : Shape := ⟨3, ![16384, 1, 32]⟩
abbrev S16384x32 : Shape := ⟨2, ![16384, 32]⟩
abbrev S32768x32 : Shape := ⟨2, ![32768, 32]⟩
abbrev S2x16384x32 : Shape := ⟨3, ![2, 16384, 32]⟩

abbrev nBuf : Space → Nat
  | .hbm => 374
  | .vmem => 0
  | .smem => 0
  | _ => 0

abbrev hbmTy0_0 (i : Nat) : BufTy := match i % 128 with
  | 0 => ⟨S16384x2x128, .f32⟩
  | 1 => ⟨S16384x1, .f32⟩
  | 2 => ⟨S16384x1, .f32⟩
  | 3 => ⟨S128x64, .f32⟩
  | 4 => ⟨S64, .f32⟩
  | 5 => ⟨S64x18, .f32⟩
  | 6 => ⟨S18, .f32⟩
  | 7 => ⟨S64x18, .f32⟩
  | 8 => ⟨S18, .f32⟩
  | 9 => ⟨S259x64, .f32⟩
  | 10 => ⟨S64, .f32⟩
  | 11 => ⟨S64x576, .f32⟩
  | 12 => ⟨S576, .f32⟩
  | 13 => ⟨S18x16384, .f32⟩
  | 14 => ⟨S18x16384, .f32⟩
  | 15 => ⟨S2x16384x128, .f32⟩
  | 16 => ⟨S1x16384x128, .f32⟩
  | 17 => ⟨S16384x128, .f32⟩
  | 18 => ⟨S16384x64, .f32⟩
  | 19 => ⟨S1x64, .f32⟩
  | 20 => ⟨S16384x64, .f32⟩
  | 21 => ⟨S16384x64, .f32⟩
  | 22 => ⟨S16384x64, .f32⟩
  | 23 => ⟨S16384x18, .f32⟩
  | 24 => ⟨S1x18, .f32⟩
  | 25 => ⟨S16384x18, .f32⟩
  | 26 => ⟨S16384x18, .f32⟩
  | 27 => ⟨S16384x18, .f32⟩
  | 28 => ⟨S1x18, .f32⟩
  | 29 => ⟨S16384x18, .f32⟩
  | 30 => ⟨S16384x18, .f32⟩
  | 31 => ⟨S16384x1x18, .f32⟩
  | 32 => ⟨S_, .f32⟩
  | 33 => ⟨S16384x1, .f32⟩
  | 34 => ⟨S_, .f32⟩
  | 35 => ⟨S16384x1, .f32⟩
  | 36 => ⟨S16384x1, .f32⟩
  | 37 => ⟨S16384x1x1, .f32⟩
  | 38 => ⟨S16384x1x18, .f32⟩
  | 39 => ⟨S16384x1x18, .f32⟩
  | 40 => ⟨S16384x1x18, .f32⟩
  | 41 => ⟨S_, .f32⟩
  | 42 => ⟨S16384x1, .f32⟩
  | 43 => ⟨S16384x1x1, .f32⟩
  | 44 => ⟨S16384x1x18, .f32⟩
  | 45 => ⟨S16384x1x18, .f32⟩
  | 46 => ⟨S_, .f32⟩
  | 47 => ⟨S16384x1, .f32⟩
  | 48 => ⟨S_, .f32⟩
  | 49 => ⟨S16384x1, .f32⟩
  | 50 => ⟨S16384x1, .f32⟩
  | 51 => ⟨S16384x1x1, .f32⟩
  | 52 => ⟨S16384x1x18, .f32⟩
  | 53 => ⟨S16384x1x18, .f32⟩
  | 54 => ⟨S16384x1x18, .f32⟩
  | 55 => ⟨S_, .f32⟩
  | 56 => ⟨S16384x1, .f32⟩
  | 57 => ⟨S16384x1x1, .f32⟩
  | 58 => ⟨S16384x1x1, .f32⟩
  | 59 => ⟨S16384x1x18, .f32⟩
  | 60 => ⟨S16384x1x18, .f32⟩
  | 61 => ⟨S16384x1x18, .f32⟩
  | 62 => ⟨S16384x1x18, .f32⟩
  | 63 => ⟨S_, .f32⟩
  | 64 => ⟨S16384x1, .f32⟩
  | 65 => ⟨S16384x1, .f32⟩
  | 66 => ⟨S_, .f32⟩
  | 67 => ⟨S_, .f32⟩
  | 68 => ⟨S_, .f32⟩
  | 69 => ⟨S_, .f32⟩
  | 70 => ⟨S16384x18, .f32⟩
  | 71 => ⟨S16384x18, .f32⟩
  | 72 => ⟨S16384x18, .f32⟩
  | 73 => ⟨S16384x18, .f32⟩
  | 74 => ⟨S16384x18, .f32⟩
  | 75 => ⟨S16384x18, .f32⟩
  | 76 => ⟨S16384x18, .i32⟩
  | 77 => ⟨S_, .f32⟩
  | 78 => ⟨S_, .i32⟩
  | 79 => ⟨S16384, .f32⟩
  | 80 => ⟨S16384, .i32⟩
  | 81 => ⟨S_, .f32⟩
  | 82 => ⟨S16384, .f32⟩
  | 83 => ⟨S_, .f32⟩
  | 84 => ⟨S16384, .f32⟩
  | 85 => ⟨S16384, .f32⟩
  | 86 => ⟨S16384x1, .f32⟩
  | 87 => ⟨S16384x18, .f32⟩
  | 88 => ⟨S16384x18, .f32⟩
  | 89 => ⟨S16384x18, .f32⟩
  | 90 => ⟨S_, .f32⟩
  | 91 => ⟨S16384, .f32⟩
  | 92 => ⟨S16384x1, .f32⟩
  | 93 => ⟨S16384x1, .f32⟩
  | 94 => ⟨S16384x18, .f32⟩
  | 95 => ⟨S16384x18, .f32⟩
  | 96 => ⟨S16384x1, .i32⟩
  | 97 => ⟨S_, .i32⟩
  | 98 => ⟨S16384x1, .i32⟩
  | 99 => ⟨S16384x1, .i1⟩
  | 100 => ⟨S_, .i32⟩
  | 101 => ⟨S16384x1, .i32⟩
  | 102 => ⟨S16384x1, .i32⟩
  | 103 => ⟨S16384x1, .i32⟩
  | 104 => ⟨S16384x1x1, .i32⟩
  | 105 => ⟨S1, .i32⟩
  | 106 => ⟨S_, .i32⟩
  | 107 => ⟨S16384x1x1, .i32⟩
  | 108 => ⟨S16384x1x1, .i1⟩
  | 109 => ⟨S1x1x1, .i32⟩
  | 110 => ⟨S16384x1x1, .i32⟩
  | 111 => ⟨S16384x1x1, .i1⟩
  | 112 => ⟨S16384x1x1, .i1⟩
  | 113 => ⟨S_, .i1⟩
  | 114 => ⟨S16384x1, .i1⟩
  | 115 => ⟨S16384x1, .f32⟩
  | 116 => ⟨S_, .f32⟩
  | 117 => ⟨S16384x1, .f32⟩
  | 118 => ⟨S16384x1, .f32⟩
  | 119 => ⟨S16384x1, .i32⟩
  | 120 => ⟨S_, .f32⟩
  | 121 => ⟨S16384, .f32⟩
  | 122 => ⟨S_, .f32⟩
  | 123 => ⟨S16384, .f32⟩
  | 124 => ⟨S16384, .f32⟩
  | 125 => ⟨S16384x1, .f32⟩
  | 126 => ⟨S16384x18, .f32⟩
  | 127 => ⟨S16384x18, .f32⟩
  | _ => ⟨S16384x2x128, .f32⟩

abbrev hbmTy0_1 (i : Nat) : BufTy := match i % 128 with
  | 0 => ⟨S16384x18, .f32⟩
  | 1 => ⟨S_, .f32⟩
  | 2 => ⟨S16384, .f32⟩
  | 3 => ⟨S16384x1, .f32⟩
  | 4 => ⟨S16384x1, .f32⟩
  | 5 => ⟨S16384x18, .f32⟩
  | 6 => ⟨S16384x18, .f32⟩
  | 7 => ⟨S16384x18, .f32⟩
  | 8 => ⟨S16384x18, .f32⟩
  | 9 => ⟨S_, .f32⟩
  | 10 => ⟨S16384, .f32⟩
  | 11 => ⟨S16384, .f32⟩
  | 12 => ⟨S_, .f32⟩
  | 13 => ⟨S_, .f32⟩
  | 14 => ⟨S_, .f32⟩
  | 15 => ⟨S_, .f32⟩
  | 16 => ⟨S1x16384x128, .f32⟩
  | 17 => ⟨S16384x128, .f32⟩
  | 18 => ⟨S16384x64, .f32⟩
  | 19 => ⟨S1x64, .f32⟩
  | 20 => ⟨S16384x64, .f32⟩
  | 21 => ⟨S16384x64, .f32⟩
  | 22 => ⟨S16384x64, .f32⟩
  | 23 => ⟨S16384x18, .f32⟩
  | 24 => ⟨S1x18, .f32⟩
  | 25 => ⟨S16384x18, .f32⟩
  | 26 => ⟨S16384x18, .f32⟩
  | 27 => ⟨S16384x18, .f32⟩
  | 28 => ⟨S1x18, .f32⟩
  | 29 => ⟨S16384x18, .f32⟩
  | 30 => ⟨S16384x18, .f32⟩
  | 31 => ⟨S16384x1x18, .f32⟩
  | 32 => ⟨S_, .f32⟩
  | 33 => ⟨S16384x1, .f32⟩
  | 34 => ⟨S_, .f32⟩
  | 35 => ⟨S16384x1, .f32⟩
  | 36 => ⟨S16384x1, .f32⟩
  | 37 => ⟨S16384x1x1, .f32⟩
  | 38 => ⟨S16384x1x18, .f32⟩
  | 39 => ⟨S16384x1x18, .f32⟩
  | 40 => ⟨S16384x1x18, .f32⟩
  | 41 => ⟨S_, .f32⟩
  | 42 => ⟨S16384x1, .f32⟩
  | 43 => ⟨S16384x1x1, .f32⟩
  | 44 => ⟨S16384x1x18, .f32⟩
  | 45 => ⟨S16384x1x18, .f32⟩
  | 46 => ⟨S_, .f32⟩
  | 47 => ⟨S16384x1, .f32⟩
  | 48 => ⟨S_, .f32⟩
  | 49 => ⟨S16384x1, .f32⟩
  | 50 => ⟨S16384x1, .f32⟩
  | 51 => ⟨S16384x1x1, .f32⟩
  | 52 => ⟨S16384x1x18, .f32⟩
  | 53 => ⟨S16384x1x18, .f32⟩
  | 54 => ⟨S16384x1x18, .f32⟩
  | 55 => ⟨S_, .f32⟩
  | 56 => ⟨S16384x1, .f32⟩
  | 57 => ⟨S16384x1x1, .f32⟩
  | 58 => ⟨S16384x1x1, .f32⟩
  | 59 => ⟨S16384x1x18, .f32⟩
  | 60 => ⟨S16384x1x18, .f32⟩
  | 61 => ⟨S16384x1x18, .f32⟩
  | 62 => ⟨S16384x1x18, .f32⟩
  | 63 => ⟨S_, .f32⟩
  | 64 => ⟨S16384x1, .f32⟩
  | 65 => ⟨S16384x1, .f32⟩
  | 66 => ⟨S_, .f32⟩
  | 67 => ⟨S_, .f32⟩
  | 68 => ⟨S_, .f32⟩
  | 69 => ⟨S_, .f32⟩
  | 70 => ⟨S16384x18, .f32⟩
  | 71 => ⟨S16384x18, .f32⟩
  | 72 => ⟨S16384x18, .f32⟩
  | 73 => ⟨S16384x18, .f32⟩
  | 74 => ⟨S16384x18, .f32⟩
  | 75 => ⟨S16384x18, .f32⟩
  | 76 => ⟨S16384x18, .i32⟩
  | 77 => ⟨S_, .f32⟩
  | 78 => ⟨S_, .i32⟩
  | 79 => ⟨S16384, .f32⟩
  | 80 => ⟨S16384, .i32⟩
  | 81 => ⟨S_, .f32⟩
  | 82 => ⟨S16384, .f32⟩
  | 83 => ⟨S_, .f32⟩
  | 84 => ⟨S16384, .f32⟩
  | 85 => ⟨S16384, .f32⟩
  | 86 => ⟨S16384x1, .f32⟩
  | 87 => ⟨S16384x18, .f32⟩
  | 88 => ⟨S16384x18, .f32⟩
  | 89 => ⟨S16384x18, .f32⟩
  | 90 => ⟨S_, .f32⟩
  | 91 => ⟨S16384, .f32⟩
  | 92 => ⟨S16384x1, .f32⟩
  | 93 => ⟨S16384x1, .f32⟩
  | 94 => ⟨S16384x18, .f32⟩
  | 95 => ⟨S16384x18, .f32⟩
  | 96 => ⟨S16384x1, .i32⟩
  | 97 => ⟨S_, .i32⟩
  | 98 => ⟨S16384x1, .i32⟩
  | 99 => ⟨S16384x1, .i1⟩
  | 100 => ⟨S_, .i32⟩
  | 101 => ⟨S16384x1, .i32⟩
  | 102 => ⟨S16384x1, .i32⟩
  | 103 => ⟨S16384x1, .i32⟩
  | 104 => ⟨S16384x1x1, .i32⟩
  | 105 => ⟨S1, .i32⟩
  | 106 => ⟨S_, .i32⟩
  | 107 => ⟨S16384x1x1, .i32⟩
  | 108 => ⟨S16384x1x1, .i1⟩
  | 109 => ⟨S1x1x1, .i32⟩
  | 110 => ⟨S16384x1x1, .i32⟩
  | 111 => ⟨S16384x1x1, .i1⟩
  | 112 => ⟨S16384x1x1, .i1⟩
  | 113 => ⟨S_, .i1⟩
  | 114 => ⟨S16384x1, .i1⟩
  | 115 => ⟨S16384x1, .f32⟩
  | 116 => ⟨S_, .f32⟩
  | 117 => ⟨S16384x1, .f32⟩
  | 118 => ⟨S16384x1, .f32⟩
  | 119 => ⟨S16384x1, .i32⟩
  | 120 => ⟨S_, .f32⟩
  | 121 => ⟨S16384, .f32⟩
  | 122 => ⟨S_, .f32⟩
  | 123 => ⟨S16384, .f32⟩
  | 124 => ⟨S16384, .f32⟩
  | 125 => ⟨S16384x1, .f32⟩
  | 126 => ⟨S16384x18, .f32⟩
  | 127 => ⟨S16384x18, .f32⟩
  | _ => ⟨S16384x2x128, .f32⟩

abbrev hbmTy0_2 (i : Nat) : BufTy := match i % 128 with
  | 0 => ⟨S16384x18, .f32⟩
  | 1 => ⟨S_, .f32⟩
  | 2 => ⟨S16384, .f32⟩
  | 3 => ⟨S16384x1, .f32⟩
  | 4 => ⟨S16384x1, .f32⟩
  | 5 => ⟨S16384x18, .f32⟩
  | 6 => ⟨S16384x18, .f32⟩
  | 7 => ⟨S16384x18, .f32⟩
  | 8 => ⟨S16384x18, .f32⟩
  | 9 => ⟨S_, .f32⟩
  | 10 => ⟨S16384, .f32⟩
  | 11 => ⟨S16384, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S16384x2, .i32⟩
  | 27 => ⟨S16384x2, .f32⟩
  | 28 => ⟨S16384x2x128, .f32⟩
  | 29 => ⟨S16384x256, .f32⟩
  | 30 => ⟨S_, .f32⟩
  | 31 => ⟨S16384x1, .f32⟩
  | 32 => ⟨S_, .f32⟩
  | 33 => ⟨S16384x1, .f32⟩
  | 34 => ⟨S16384x1, .f32⟩
  | 35 => ⟨S16384x2, .f32⟩
  | 36 => ⟨S16384x259, .f32⟩
  | 37 => ⟨S16384x64, .f32⟩
  | 38 => ⟨S1x64, .f32⟩
  | 39 => ⟨S16384x64, .f32⟩
  | 40 => ⟨S16384x64, .f32⟩
  | 41 => ⟨S16384x64, .f32⟩
  | 42 => ⟨S16384x576, .f32⟩
  | 43 => ⟨S1x576, .f32⟩
  | 44 => ⟨S16384x576, .f32⟩
  | 45 => ⟨S16384x576, .f32⟩
  | 46 => ⟨S16384x18x32, .f32⟩
  | 47 => ⟨S16384x1, .i32⟩
  | 48 => ⟨S16384, .i32⟩
  | 49 => ⟨S16384x1x1, .i32⟩
  | 50 => ⟨S_, .i32⟩
  | 51 => ⟨S16384x1x1, .i32⟩
  | 52 => ⟨S16384x1x1, .i1⟩
  | 53 => ⟨S_, .i32⟩
  | 54 => ⟨S16384x1x1, .i32⟩
  | 55 => ⟨S16384x1x1, .i32⟩
  | 56 => ⟨S16384x1x1, .i32⟩
  | 57 => ⟨S1, .i32⟩
  | 58 => ⟨S_, .i32⟩
  | 59 => ⟨S16384x1x1, .i32⟩
  | 60 => ⟨S16384x1x1, .i1⟩
  | 61 => ⟨S1x1x1, .i32⟩
  | 62 => ⟨S16384x1x1, .i32⟩
  | 63 => ⟨S16384x1x1, .i1⟩
  | 64 => ⟨S16384x1x1, .i1⟩
  | 65 => ⟨S_, .i1⟩
  | 66 => ⟨S16384x1, .i1⟩
  | 67 => ⟨S16384x1x32, .f32⟩
  | 68 => ⟨S16384x1x32, .i1⟩
  | 69 => ⟨S_, .f32⟩
  | 70 => ⟨S16384x1x32, .f32⟩
  | 71 => ⟨S16384x1x32, .f32⟩
  | 72 => ⟨S16384x32, .f32⟩
  | 73 => ⟨S_, .f32⟩
  | 74 => ⟨S16384x1, .f32⟩
  | 75 => ⟨S_, .f32⟩
  | 76 => ⟨S16384x1, .f32⟩
  | 77 => ⟨S16384x1, .f32⟩
  | 78 => ⟨S16384x2, .f32⟩
  | 79 => ⟨S16384x259, .f32⟩
  | 80 => ⟨S16384x64, .f32⟩
  | 81 => ⟨S1x64, .f32⟩
  | 82 => ⟨S16384x64, .f32⟩
  | 83 => ⟨S16384x64, .f32⟩
  | 84 => ⟨S16384x64, .f32⟩
  | 85 => ⟨S16384x576, .f32⟩
  | 86 => ⟨S1x576, .f32⟩
  | 87 => ⟨S16384x576, .f32⟩
  | 88 => ⟨S16384x576, .f32⟩
  | 89 => ⟨S16384x18x32, .f32⟩
  | 90 => ⟨S16384x1, .i32⟩
  | 91 => ⟨S16384, .i32⟩
  | 92 => ⟨S16384x1x1, .i32⟩
  | 93 => ⟨S_, .i32⟩
  | 94 => ⟨S16384x1x1, .i32⟩
  | 95 => ⟨S16384x1x1, .i1⟩
  | 96 => ⟨S_, .i32⟩
  | 97 => ⟨S16384x1x1, .i32⟩
  | 98 => ⟨S16384x1x1, .i32⟩
  | 99 => ⟨S16384x1x1, .i32⟩
  | 100 => ⟨S1, .i32⟩
  | 101 => ⟨S_, .i32⟩
  | 102 => ⟨S16384x1x1, .i32⟩
  | 103 => ⟨S16384x1x1, .i1⟩
  | 104 => ⟨S1x1x1, .i32⟩
  | 105 => ⟨S16384x1x1, .i32⟩
  | 106 => ⟨S16384x1x1, .i1⟩
  | 107 => ⟨S16384x1x1, .i1⟩
  | 108 => ⟨S_, .i1⟩
  | 109 => ⟨S16384x1, .i1⟩
  | 110 => ⟨S16384x1x32, .f32⟩
  | 111 => ⟨S16384x1x32, .i1⟩
  | 112 => ⟨S_, .f32⟩
  | 113 => ⟨S16384x1x32, .f32⟩
  | 114 => ⟨S16384x1x32, .f32⟩
  | 115 => ⟨S16384x32, .f32⟩
  | 116 => ⟨S32768x32, .f32⟩
  | 117 => ⟨S2x16384x32, .f32⟩
  | _ => ⟨S16384x2x128, .f32⟩

abbrev hbmTy (i : Nat) : BufTy := match i / 128 with
  | 0 => hbmTy0_0 i
  | 1 => hbmTy0_1 i
  | 2 => hbmTy0_2 i
  | _ => ⟨S16384x2x128, .f32⟩

abbrev bufTy : (tb : Table) → Fin (tcTables nBuf tb) → BufTy
  | .hbm, ⟨i, _⟩ => hbmTy i
  | _, _ => ⟨S16384x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_call0_cst_0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_cst_1 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_2 : Ref sig .tc := ⟨.hbm, 63, rfl⟩
abbrev main_v31 : Ref sig .tc := ⟨.hbm, 64, rfl⟩
abbrev main_v32 : Ref sig .tc := ⟨.hbm, 65, rfl⟩
abbrev main_cst_3 : Ref sig .tc := ⟨.hbm, 66, rfl⟩
abbrev main_v33 : Ref sig .tc := ⟨.hbm, 67, rfl⟩
abbrev main_cst_4 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_call1_v0 : Ref sig .tc := ⟨.hbm, 76, rfl⟩
abbrev main_call1_cst : Ref sig .tc := ⟨.hbm, 77, rfl⟩
abbrev main_call1_c : Ref sig .tc := ⟨.hbm, 78, rfl⟩
abbrev main_call1_v1_0 : Ref sig .tc := ⟨.hbm, 79, rfl⟩
abbrev main_v41 : Ref sig .tc := ⟨.hbm, 80, rfl⟩
abbrev main_call2_cst : Ref sig .tc := ⟨.hbm, 81, rfl⟩
abbrev main_call2_v0 : Ref sig .tc := ⟨.hbm, 82, rfl⟩
abbrev main_call2_cst_0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_cst_1 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_v42 : Ref sig .tc := ⟨.hbm, 95, rfl⟩
abbrev main_v43 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_cst : Ref sig .tc := ⟨.hbm, 116, rfl⟩
abbrev main_call3_v14 : Ref sig .tc := ⟨.hbm, 117, rfl⟩
abbrev main_v44 : Ref sig .tc := ⟨.hbm, 118, rfl⟩
abbrev main_v45 : Ref sig .tc := ⟨.hbm, 119, rfl⟩
abbrev main_call4_cst : Ref sig .tc := ⟨.hbm, 120, rfl⟩
abbrev main_call4_v0 : Ref sig .tc := ⟨.hbm, 121, rfl⟩
abbrev main_call4_cst_0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_v6 : Ref sig .tc := ⟨.hbm, 128, rfl⟩
abbrev main_call4_cst_1 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_cst_5 : Ref sig .tc := ⟨.hbm, 137, rfl⟩
abbrev main_v49 : Ref sig .tc := ⟨.hbm, 138, rfl⟩
abbrev main_v50 : Ref sig .tc := ⟨.hbm, 139, rfl⟩
abbrev main_cst_6 : Ref sig .tc := ⟨.hbm, 140, rfl⟩
abbrev main_v51 : Ref sig .tc := ⟨.hbm, 141, rfl⟩
abbrev main_cst_7 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_cst_8 : Ref sig .tc := ⟨.hbm, 160, rfl⟩
abbrev main_v69 : Ref sig .tc := ⟨.hbm, 161, rfl⟩
abbrev main_cst_9 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_cst_10 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_call5_cst : Ref sig .tc := ⟨.hbm, 174, rfl⟩
abbrev main_call5_v0 : Ref sig .tc := ⟨.hbm, 175, rfl⟩
abbrev main_call5_cst_0 : Ref sig .tc := ⟨.hbm, 176, rfl⟩
abbrev main_call5_v1 : Ref sig .tc := ⟨.hbm, 177, rfl⟩
abbrev main_call5_v2 : Ref sig .tc := ⟨.hbm, 178, rfl⟩
abbrev main_call5_v3 : Ref sig .tc := ⟨.hbm, 179, rfl⟩
abbrev main_call5_v4 : Ref sig .tc := ⟨.hbm, 180, rfl⟩
abbrev main_call5_v5 : Ref sig .tc := ⟨.hbm, 181, rfl⟩
abbrev main_call5_v6 : Ref sig .tc := ⟨.hbm, 182, rfl⟩
abbrev main_call5_cst_1 : Ref sig .tc := ⟨.hbm, 183, rfl⟩
abbrev main_call5_v7 : Ref sig .tc := ⟨.hbm, 184, rfl⟩
abbrev main_call5_v8 : Ref sig .tc := ⟨.hbm, 185, rfl⟩
abbrev main_call5_v9 : Ref sig .tc := ⟨.hbm, 186, rfl⟩
abbrev main_call5_v10 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_cst_11 : Ref sig .tc := ⟨.hbm, 191, rfl⟩
abbrev main_v83 : Ref sig .tc := ⟨.hbm, 192, rfl⟩
abbrev main_v84 : Ref sig .tc := ⟨.hbm, 193, rfl⟩
abbrev main_cst_12 : Ref sig .tc := ⟨.hbm, 194, rfl⟩
abbrev main_v85 : Ref sig .tc := ⟨.hbm, 195, rfl⟩
abbrev main_cst_13 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_call6_v0 : Ref sig .tc := ⟨.hbm, 204, rfl⟩
abbrev main_call6_cst : Ref sig .tc := ⟨.hbm, 205, rfl⟩
abbrev main_call6_c : Ref sig .tc := ⟨.hbm, 206, rfl⟩
abbrev main_call6_v1_0 : Ref sig .tc := ⟨.hbm, 207, rfl⟩
abbrev main_v93 : Ref sig .tc := ⟨.hbm, 208, rfl⟩
abbrev main_call7_cst : Ref sig .tc := ⟨.hbm, 209, rfl⟩
abbrev main_call7_v0 : Ref sig .tc := ⟨.hbm, 210, rfl⟩
abbrev main_call7_cst_0 : Ref sig .tc := ⟨.hbm, 211, rfl⟩
abbrev main_call7_v1 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_call7_v5 : Ref sig .tc := ⟨.hbm, 216, rfl⟩
abbrev main_call7_v6 : Ref sig .tc := ⟨.hbm, 217, rfl⟩
abbrev main_call7_cst_1 : Ref sig .tc := ⟨.hbm, 218, rfl⟩
abbrev main_call7_v7 : Ref sig .tc := ⟨.hbm, 219, rfl⟩
abbrev main_call7_v8 : Ref sig .tc := ⟨.hbm, 220, rfl⟩
abbrev main_call7_v9 : Ref sig .tc := ⟨.hbm, 221, rfl⟩
abbrev main_call7_v10 : Ref sig .tc := ⟨.hbm, 222, rfl⟩
abbrev main_v94 : Ref sig .tc := ⟨.hbm, 223, rfl⟩
abbrev main_v95 : Ref sig .tc := ⟨.hbm, 224, rfl⟩
abbrev main_call8_c : Ref sig .tc := ⟨.hbm, 225, rfl⟩
abbrev main_call8_v0 : Ref sig .tc := ⟨.hbm, 226, rfl⟩
abbrev main_call8_v1 : Ref sig .tc := ⟨.hbm, 227, rfl⟩
abbrev main_call8_c_0 : Ref sig .tc := ⟨.hbm, 228, rfl⟩
abbrev main_call8_v2 : Ref sig .tc := ⟨.hbm, 229, rfl⟩
abbrev main_call8_v3 : Ref sig .tc := ⟨.hbm, 230, rfl⟩
abbrev main_call8_v4 : Ref sig .tc := ⟨.hbm, 231, rfl⟩
abbrev main_call8_v5 : Ref sig .tc := ⟨.hbm, 232, rfl⟩
abbrev main_call8_c_1 : Ref sig .tc := ⟨.hbm, 233, rfl⟩
abbrev main_call8_c_2 : Ref sig .tc := ⟨.hbm, 234, rfl⟩
abbrev main_call8_v6 : Ref sig .tc := ⟨.hbm, 235, rfl⟩
abbrev main_call8_v7 : Ref sig .tc := ⟨.hbm, 236, rfl⟩
abbrev main_call8_v8 : Ref sig .tc := ⟨.hbm, 237, rfl⟩
abbrev main_call8_v9 : Ref sig .tc := ⟨.hbm, 238, rfl⟩
abbrev main_call8_v10 : Ref sig .tc := ⟨.hbm, 239, rfl⟩
abbrev main_call8_v11 : Ref sig .tc := ⟨.hbm, 240, rfl⟩
abbrev main_call8_c_3 : Ref sig .tc := ⟨.hbm, 241, rfl⟩
abbrev main_call8_v12 : Ref sig .tc := ⟨.hbm, 242, rfl⟩
abbrev main_call8_v13 : Ref sig .tc := ⟨.hbm, 243, rfl⟩
abbrev main_call8_cst : Ref sig .tc := ⟨.hbm, 244, rfl⟩
abbrev main_call8_v14 : Ref sig .tc := ⟨.hbm, 245, rfl⟩
abbrev main_v96 : Ref sig .tc := ⟨.hbm, 246, rfl⟩
abbrev main_v97 : Ref sig .tc := ⟨.hbm, 247, rfl⟩
abbrev main_call9_cst : Ref sig .tc := ⟨.hbm, 248, rfl⟩
abbrev main_call9_v0 : Ref sig .tc := ⟨.hbm, 249, rfl⟩
abbrev main_call9_cst_0 : Ref sig .tc := ⟨.hbm, 250, rfl⟩
abbrev main_call9_v1 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_call9_v5 : Ref sig .tc := ⟨.hbm, 255, rfl⟩
abbrev main_call9_v6 : Ref sig .tc := ⟨.hbm, 256, rfl⟩
abbrev main_call9_cst_1 : Ref sig .tc := ⟨.hbm, 257, rfl⟩
abbrev main_call9_v7 : Ref sig .tc := ⟨.hbm, 258, rfl⟩
abbrev main_call9_v8 : Ref sig .tc := ⟨.hbm, 259, rfl⟩
abbrev main_call9_v9 : Ref sig .tc := ⟨.hbm, 260, rfl⟩
abbrev main_call9_v10 : Ref sig .tc := ⟨.hbm, 261, rfl⟩
abbrev main_v98 : Ref sig .tc := ⟨.hbm, 262, rfl⟩
abbrev main_v99 : Ref sig .tc := ⟨.hbm, 263, rfl⟩
abbrev main_v100 : Ref sig .tc := ⟨.hbm, 264, rfl⟩
abbrev main_cst_14 : Ref sig .tc := ⟨.hbm, 265, rfl⟩
abbrev main_v101 : Ref sig .tc := ⟨.hbm, 266, rfl⟩
abbrev main_v102 : Ref sig .tc := ⟨.hbm, 267, rfl⟩
abbrev main_cst_15 : Ref sig .tc := ⟨.hbm, 268, rfl⟩
abbrev main_v103 : Ref sig .tc := ⟨.hbm, 269, rfl⟩
abbrev main_cst_16 : Ref sig .tc := ⟨.hbm, 270, rfl⟩
abbrev main_v104 : Ref sig .tc := ⟨.hbm, 271, rfl⟩
abbrev main_cst_17 : Ref sig .tc := ⟨.hbm, 272, rfl⟩
abbrev main_v105 : Ref sig .tc := ⟨.hbm, 273, rfl⟩
abbrev main_v106 : Ref sig .tc := ⟨.hbm, 274, rfl⟩
abbrev main_cst_18 : Ref sig .tc := ⟨.hbm, 275, rfl⟩
abbrev main_v107 : Ref sig .tc := ⟨.hbm, 276, rfl⟩
abbrev main_cst_19 : Ref sig .tc := ⟨.hbm, 277, rfl⟩
abbrev main_v108 : Ref sig .tc := ⟨.hbm, 278, rfl⟩
abbrev main_v109 : Ref sig .tc := ⟨.hbm, 279, rfl⟩
abbrev main_cst_20 : Ref sig .tc := ⟨.hbm, 280, rfl⟩
abbrev main_v110 : Ref sig .tc := ⟨.hbm, 281, rfl⟩
abbrev main_v111 : Ref sig .tc := ⟨.hbm, 282, rfl⟩
abbrev main_v112 : Ref sig .tc := ⟨.hbm, 283, rfl⟩
abbrev main_v113 : Ref sig .tc := ⟨.hbm, 284, rfl⟩
abbrev main_v114 : Ref sig .tc := ⟨.hbm, 285, rfl⟩
abbrev main_cst_21 : Ref sig .tc := ⟨.hbm, 286, rfl⟩
abbrev main_v115 : Ref sig .tc := ⟨.hbm, 287, rfl⟩
abbrev main_cst_22 : Ref sig .tc := ⟨.hbm, 288, rfl⟩
abbrev main_v116 : Ref sig .tc := ⟨.hbm, 289, rfl⟩
abbrev main_v117 : Ref sig .tc := ⟨.hbm, 290, rfl⟩
abbrev main_v118 : Ref sig .tc := ⟨.hbm, 291, rfl⟩
abbrev main_v119 : Ref sig .tc := ⟨.hbm, 292, rfl⟩
abbrev main_v120 : Ref sig .tc := ⟨.hbm, 293, rfl⟩
abbrev main_v121 : Ref sig .tc := ⟨.hbm, 294, rfl⟩
abbrev main_v122 : Ref sig .tc := ⟨.hbm, 295, rfl⟩
abbrev main_v123 : Ref sig .tc := ⟨.hbm, 296, rfl⟩
abbrev main_v124 : Ref sig .tc := ⟨.hbm, 297, rfl⟩
abbrev main_v125 : Ref sig .tc := ⟨.hbm, 298, rfl⟩
abbrev main_v126 : Ref sig .tc := ⟨.hbm, 299, rfl⟩
abbrev main_v127 : Ref sig .tc := ⟨.hbm, 300, rfl⟩
abbrev main_v128 : Ref sig .tc := ⟨.hbm, 301, rfl⟩
abbrev main_v129 : Ref sig .tc := ⟨.hbm, 302, rfl⟩
abbrev main_v130 : Ref sig .tc := ⟨.hbm, 303, rfl⟩
abbrev main_v131 : Ref sig .tc := ⟨.hbm, 304, rfl⟩
abbrev main_v132 : Ref sig .tc := ⟨.hbm, 305, rfl⟩
abbrev main_call10_c : Ref sig .tc := ⟨.hbm, 306, rfl⟩
abbrev main_call10_v0 : Ref sig .tc := ⟨.hbm, 307, rfl⟩
abbrev main_call10_v1 : Ref sig .tc := ⟨.hbm, 308, rfl⟩
abbrev main_call10_c_0 : Ref sig .tc := ⟨.hbm, 309, rfl⟩
abbrev main_call10_v2 : Ref sig .tc := ⟨.hbm, 310, rfl⟩
abbrev main_call10_v3 : Ref sig .tc := ⟨.hbm, 311, rfl⟩
abbrev main_call10_v4 : Ref sig .tc := ⟨.hbm, 312, rfl⟩
abbrev main_call10_c_1 : Ref sig .tc := ⟨.hbm, 313, rfl⟩
abbrev main_call10_c_2 : Ref sig .tc := ⟨.hbm, 314, rfl⟩
abbrev main_call10_v5 : Ref sig .tc := ⟨.hbm, 315, rfl⟩
abbrev main_call10_v6 : Ref sig .tc := ⟨.hbm, 316, rfl⟩
abbrev main_call10_v7 : Ref sig .tc := ⟨.hbm, 317, rfl⟩
abbrev main_call10_v8 : Ref sig .tc := ⟨.hbm, 318, rfl⟩
abbrev main_call10_v9 : Ref sig .tc := ⟨.hbm, 319, rfl⟩
abbrev main_call10_v10 : Ref sig .tc := ⟨.hbm, 320, rfl⟩
abbrev main_call10_c_3 : Ref sig .tc := ⟨.hbm, 321, rfl⟩
abbrev main_call10_v11 : Ref sig .tc := ⟨.hbm, 322, rfl⟩
abbrev main_call10_v12 : Ref sig .tc := ⟨.hbm, 323, rfl⟩
abbrev main_call10_v13 : Ref sig .tc := ⟨.hbm, 324, rfl⟩
abbrev main_call10_cst : Ref sig .tc := ⟨.hbm, 325, rfl⟩
abbrev main_call10_v14 : Ref sig .tc := ⟨.hbm, 326, rfl⟩
abbrev main_v133 : Ref sig .tc := ⟨.hbm, 327, rfl⟩
abbrev main_v134 : Ref sig .tc := ⟨.hbm, 328, rfl⟩
abbrev main_cst_23 : Ref sig .tc := ⟨.hbm, 329, rfl⟩
abbrev main_v135 : Ref sig .tc := ⟨.hbm, 330, rfl⟩
abbrev main_cst_24 : Ref sig .tc := ⟨.hbm, 331, rfl⟩
abbrev main_v136 : Ref sig .tc := ⟨.hbm, 332, rfl⟩
abbrev main_v137 : Ref sig .tc := ⟨.hbm, 333, rfl⟩
abbrev main_v138 : Ref sig .tc := ⟨.hbm, 334, rfl⟩
abbrev main_v139 : Ref sig .tc := ⟨.hbm, 335, rfl⟩
abbrev main_v140 : Ref sig .tc := ⟨.hbm, 336, rfl⟩
abbrev main_v141 : Ref sig .tc := ⟨.hbm, 337, rfl⟩
abbrev main_v142 : Ref sig .tc := ⟨.hbm, 338, rfl⟩
abbrev main_v143 : Ref sig .tc := ⟨.hbm, 339, rfl⟩
abbrev main_v144 : Ref sig .tc := ⟨.hbm, 340, rfl⟩
abbrev main_v145 : Ref sig .tc := ⟨.hbm, 341, rfl⟩
abbrev main_v146 : Ref sig .tc := ⟨.hbm, 342, rfl⟩
abbrev main_v147 : Ref sig .tc := ⟨.hbm, 343, rfl⟩
abbrev main_v148 : Ref sig .tc := ⟨.hbm, 344, rfl⟩
abbrev main_v149 : Ref sig .tc := ⟨.hbm, 345, rfl⟩
abbrev main_v150 : Ref sig .tc := ⟨.hbm, 346, rfl⟩
abbrev main_v151 : Ref sig .tc := ⟨.hbm, 347, rfl⟩
abbrev main_v152 : Ref sig .tc := ⟨.hbm, 348, rfl⟩
abbrev main_call11_c : Ref sig .tc := ⟨.hbm, 349, rfl⟩
abbrev main_call11_v0 : Ref sig .tc := ⟨.hbm, 350, rfl⟩
abbrev main_call11_v1 : Ref sig .tc := ⟨.hbm, 351, rfl⟩
abbrev main_call11_c_0 : Ref sig .tc := ⟨.hbm, 352, rfl⟩
abbrev main_call11_v2 : Ref sig .tc := ⟨.hbm, 353, rfl⟩
abbrev main_call11_v3 : Ref sig .tc := ⟨.hbm, 354, rfl⟩
abbrev main_call11_v4 : Ref sig .tc := ⟨.hbm, 355, rfl⟩
abbrev main_call11_c_1 : Ref sig .tc := ⟨.hbm, 356, rfl⟩
abbrev main_call11_c_2 : Ref sig .tc := ⟨.hbm, 357, rfl⟩
abbrev main_call11_v5 : Ref sig .tc := ⟨.hbm, 358, rfl⟩
abbrev main_call11_v6 : Ref sig .tc := ⟨.hbm, 359, rfl⟩
abbrev main_call11_v7 : Ref sig .tc := ⟨.hbm, 360, rfl⟩
abbrev main_call11_v8 : Ref sig .tc := ⟨.hbm, 361, rfl⟩
abbrev main_call11_v9 : Ref sig .tc := ⟨.hbm, 362, rfl⟩
abbrev main_call11_v10 : Ref sig .tc := ⟨.hbm, 363, rfl⟩
abbrev main_call11_c_3 : Ref sig .tc := ⟨.hbm, 364, rfl⟩
abbrev main_call11_v11 : Ref sig .tc := ⟨.hbm, 365, rfl⟩
abbrev main_call11_v12 : Ref sig .tc := ⟨.hbm, 366, rfl⟩
abbrev main_call11_v13 : Ref sig .tc := ⟨.hbm, 367, rfl⟩
abbrev main_call11_cst : Ref sig .tc := ⟨.hbm, 368, rfl⟩
abbrev main_call11_v14 : Ref sig .tc := ⟨.hbm, 369, rfl⟩
abbrev main_v153 : Ref sig .tc := ⟨.hbm, 370, rfl⟩
abbrev main_v154 : Ref sig .tc := ⟨.hbm, 371, rfl⟩
abbrev main_v155 : Ref sig .tc := ⟨.hbm, 372, rfl⟩
abbrev main_v156 : Ref sig .tc := ⟨.hbm, 373, rfl⟩

abbrev nD : Nat := 1
abbrev τ : Topo := Topo.v7x

variable {F : FTy → Type} [FloatOps F]
-- ==== Proof.RefRun.lean ====
module

public import Idealize.ShloMosaic.Lib.StableHlo.RunHlo
public import Idealize.ShloMosaic.Lib.StableHlo.RunRead
public import Idealize.ShloMosaic.Lib.Quiescent
public import Idealize.ShloMosaic.Lib.Pipeline.Frame
public import proofs.«01_k».proof.Proof.Gen.ReferenceIdeal

@[expose] public section

set_option maxRecDepth 16384

noncomputable section

namespace Cert.Proof.Ref

open Cert.ReferenceIdeal Cert.ReferenceIdeal.Gen Idealize.ShloMosaic Idealize.ShloMosaic.StableHlo Idealize.SL.Sem

section General

variable {nD : Nat} {τ : Topo} {sig : RefSig} {Val : EltTy → Type} {Λ : Labels}

/-- `p` runs the host operations `l` one after another; each of them touches TensorCore buffers alone and
    allocates none. -/
structure Line (p : Prog (TpuEff nD τ sig Val Λ .tc) PUnit) (l : List (HloOp τ sig Val)) : Prop where
  eq : p = seq l
  sub : l.Forall fun op => op.bufs ⊆ tcRefs τ sig
  fresh : ∀ op ∈ l, op.fresh = ∅

/-- The program that does nothing runs the empty line. -/
theorem Line.nil : Line (nD := nD) (Λ := Λ) (pure ⟨⟩ : Prog (TpuEff nD τ sig Val Λ .tc) PUnit) [] :=
  ⟨rfl, trivial, fun _ h => nomatch h⟩

/-- One operation in front of a line. -/
theorem Line.cons {op : HloOp τ sig Val} {k : Prog (TpuEff nD τ sig Val Λ .tc) PUnit} {l : List (HloOp τ sig Val)}
    (hs : op.bufs ⊆ tcRefs τ sig) (hf : op.fresh = ∅) (h : Line k l) :
    Line ((hlo rfl op fun _ => .ret (⟨⟩ : PUnit)) >>= fun _ => k) (op :: l) :=
  ⟨by rw [h.eq]; rfl, (List.forall_cons _ _ _).2 ⟨hs, h.sub⟩, by
    intro o ho
    rcases List.mem_cons.1 ho with rfl | ho
    · exact hf
    · exact h.fresh o ho⟩

/-- Two lines one after the other. -/
theorem Line.append {p k : Prog (TpuEff nD τ sig Val Λ .tc) PUnit} {l₁ l₂ : List (HloOp τ sig Val)}
    (h₁ : Line p l₁) (h₂ : Line k l₂) : Line (p >>= fun _ => k) (l₁ ++ l₂) :=
  ⟨by rw [h₁.eq, h₂.eq, seq_append],
   List.forall_append.2 ⟨h₁.sub, h₂.sub⟩, by
    intro o ho
    rcases List.mem_append.1 ho with ho | ho
    · exact h₁.fresh o ho
    · exact h₂.fresh o ho⟩

end General

variable {F : FTy → Type} [FloatOps F]

set_option maxHeartbeats 2000000 in
/-- The operations of the reference's part number 0. -/
def line0 : {l : List (HloOp τ sig (Elt F)) // ∀ c, Line (main_part0 (F := F) c) l} := by
  apply Subtype.mk
  · intro c
    unfold main_part0
    repeat first
      | exact Line.nil
      | apply Line.cons (by simp) rfl
      | apply Line.append
        · first
          | unfold fn_log_softmax.body | unfold fn_argmax.body | unfold fn_log_softmax_0.body
          | unfold fn_take_along_axis.body | unfold fn_take_along_axis_1.body
          repeat first | exact Line.nil | apply Line.cons (by simp) rfl

set_option maxHeartbeats 2000000 in
/-- The operations of the reference's part number 1. -/
def line1 : {l : List (HloOp τ sig (Elt F)) // ∀ c, Line (main_part1 (F := F) c) l} := by
  apply Subtype.mk
  · intro c
    unfold main_part1
    repeat first
      | exact Line.nil
      | apply Line.cons (by simp) rfl
      | apply Line.append
        · first
          | unfold fn_log_softmax.body | unfold fn_argmax.body | unfold fn_log_softmax_0.body
          | unfold fn_take_along_axis.body | unfold fn_take_along_axis_1.body
          repeat first | exact Line.nil | apply Line.cons (by simp) rfl

set_option maxHeartbeats 2000000 in
/-- The operations of the reference's part number 2. -/
def line2 : {l : List (HloOp τ sig (Elt F)) // ∀ c, Line (main_part2 (F := F) c) l} := by
  apply Subtype.mk
  · intro c
    unfold main_part2
    repeat first
      | exact Line.nil
      | apply Line.cons (by simp) rfl
      | apply Line.append
        · first
          | unfold fn_log_softmax.body | unfold fn_argmax.body | unfold fn_log_softmax_0.body
          | unfold fn_take_along_axis.body | unfold fn_take_along_axis_1.body
          repeat first | exact Line.nil | apply Line.cons (by simp) rfl

set_option maxHeartbeats 2000000 in
/-- The operations of the reference's part number 3. -/
def line3 : {l : List (HloOp τ sig (Elt F)) // ∀ c, Line (main_part3 (F := F) c) l} := by
  apply Subtype.mk
  · intro c
    unfold main_part3
    repeat first
      | exact Line.nil
      | apply Line.cons (by simp) rfl
      | apply Line.append
        · first
          | unfold fn_log_softmax.body | unfold fn_argmax.body | unfold fn_log_softmax_0.body
          | unfold fn_take_along_axis.body | unfold fn_take_along_axis_1.body
          repeat first | exact Line.nil | apply Line.cons (by simp) rfl

/-- All operations of the reference, in order. -/
def ops : List (HloOp τ sig (Elt F)) := line0.1 ++ (line1.1 ++ (line2.1 ++ line3.1))

/-- The reference is the straight line of its operations. -/
theorem main_line (c : Dev nD) : Line (main (F := F) c) ops := by
  unfold main ops
  exact (line0.2 c).append ((line1.2 c).append ((line2.2 c).append (line3.2 c)))

/-- The reference runs, and every buffer ends with what its operations leave there. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after ops (launchContents m c) (Proc.devRef .tc b) :=
  run_seq (by decide) (by decide) defs main (fun _ => ops) (fun c => (main_line c).eq) (fun c => (main_line c).sub)
    m ρ (fun c => (main_line c).fresh)

/-- No semaphore counter is ever other than zero: the reference has none. -/
theorem sem_zero (s : MemSt nD τ sig (Elt F)) : s.sem = fun _ => 0 :=
  sem_eq_zero_of_no_sems rfl s

end Cert.Proof.Ref
-- ==== Proof.RefArgs.lean ====
module

public import proofs.«01_k».proof.Proof.RefRun

@[expose] public section

set_option maxRecDepth 16384

noncomputable section

namespace Cert.Proof.Ref

open Cert.ReferenceIdeal Cert.ReferenceIdeal.Gen Idealize.ShloMosaic Idealize.ShloMosaic.StableHlo Idealize.SL.Sem

variable {F : FTy → Type} [FloatOps F]

set_option maxHeartbeats 2000000 in
/-- The reference's operations leave every argument as it was. -/
theorem args_kept (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8)
    ∧ after ops V (Proc.devRef .tc main_arg9) = V (Proc.devRef .tc main_arg9)
    ∧ after ops V (Proc.devRef .tc main_arg10) = V (Proc.devRef .tc main_arg10)
    ∧ after ops V (Proc.devRef .tc main_arg11) = V (Proc.devRef .tc main_arg11)
    ∧ after ops V (Proc.devRef .tc main_arg12) = V (Proc.devRef .tc main_arg12)
    ∧ after ops V (Proc.devRef .tc main_arg13) = V (Proc.devRef .tc main_arg13)
    ∧ after ops V (Proc.devRef .tc main_arg14) = V (Proc.devRef .tc main_arg14) := by
  refine ⟨?_, ?_, ?_, ?_, ?_, ?_, ?_, ?_, ?_, ?_, ?_, ?_, ?_, ?_, ?_⟩ <;> after_reads_simp

end Cert.Proof.Ref
-- ==== Proof.Frames.lean ====
module

public import proofs.«01_k».proof.Defs
public import proofs.«01_k».proof.Proof.Gen.Kernel.Frame
public import proofs.«01_k».proof.Proof.Gen.KernelIdeal.Frame
public import proofs.«01_k».proof.Proof.RefArgs

@[expose] public section

noncomputable section

namespace Cert.Proof

open Idealize.ShloMosaic Idealize.SL.Sem

/-- The kernel runs without a fault, leaves its arguments as they were, and ends with every counter at zero. -/
theorem frame_kernel : quiescent_Kernel (hKernel := Cert.Kernel.Gen.facts) :=
  fun m ρ _ => Cert.Kernel.Gen.frame m ρ

/-- The same for the kernel over the extended reals. -/
theorem frame_kernelIdeal : quiescent_KernelIdeal (hKernelIdeal := Cert.KernelIdeal.Gen.facts) :=
  fun m ρ _ => Cert.KernelIdeal.Gen.frame m ρ

/-- The same for the reference over the extended reals. -/
theorem frame_reference : quiescent_ReferenceIdeal (hReferenceIdeal := Cert.ReferenceIdeal.Gen.facts) := by
  intro m ρ _
  refine θ_run_mono (Ref.run m ρ) fun r hr => ⟨fun c => ?_, Ref.sem_zero r.2⟩
  obtain ⟨h0, h1, h2, h3, h4, h5, h6, h7, h8, h9, h10, h11, h12, h13, h14⟩ :=
    Ref.args_kept (StableHlo.launchContents m c)
  exact ⟨(hr c _).trans h0, (hr c _).trans h1, (hr c _).trans h2, (hr c _).trans h3, (hr c _).trans h4,
    (hr c _).trans h5, (hr c _).trans h6, (hr c _).trans h7, (hr c _).trans h8, (hr c _).trans h9,
    (hr c _).trans h10, (hr c _).trans h11, (hr c _).trans h12, (hr c _).trans h13, (hr c _).trans h14⟩

end Cert.Proof
-- ==== Proof.Spec.lean ====
module

public import Idealize.ShloMosaic.PureOps
public import Idealize.ShloMosaic.Lib.Pointwise

@[expose] public section

noncomputable section

namespace Cert.Proof.Spec

open Idealize.ShloMosaic

/-! ## One row's functions -/

/-- The largest entry of a row. -/
def top {n : ℕ} (z : Fin n → EReal) : EReal := Finset.fold max ⊥ z Finset.univ

/-- An entry less the row's largest. -/
def shift {n : ℕ} (z : Fin n → EReal) (j : Fin n) : EReal := z j - top z

/-- The logarithm of the softmax. -/
def logSm {n : ℕ} (z : Fin n → EReal) (j : Fin n) : EReal :=
  shift z j - Ideal.log (∑ k, Ideal.exp (shift z k))

/-- The softmax. -/
def soft {n : ℕ} (z : Fin n → EReal) (j : Fin n) : EReal :=
  Ideal.div (Ideal.exp (shift z j)) (∑ k, Ideal.exp (shift z k))

/-- One term of the negated entropy of the softmax. -/
def entTerm {n : ℕ} (z : Fin n → EReal) (j : Fin n) : EReal := Ideal.exp (logSm z j) * logSm z j

/-- That term, as a real number. -/
def entR {n : ℕ} (z : Fin n → EReal) (j : Fin n) : ℝ := (entTerm z j).toReal

/-- A row times a matrix, plus a bias. -/
def aff {K H : ℕ} (x : Fin K → EReal) (W : Fin K → Fin H → EReal) (c : Fin H → EReal) (h : Fin H) : EReal :=
  (∑ k, x k * W k h) + c h

/-- The same through the hyperbolic tangent. -/
def feat {K H : ℕ} (x : Fin K → EReal) (W : Fin K → Fin H → EReal) (c : Fin H → EReal) (h : Fin H) : EReal :=
  Ideal.tanh (aff x W c h)

/-- The Gumbel noise of a uniform draw. -/
def noise (u : EReal) : EReal := -Ideal.log (-Ideal.log u)

/-- Some entry of a row is its largest. -/
theorem top_attained (s : Fin 18 → EReal) : (Finset.univ.filter fun i => top s ≤ s i).Nonempty := by
  obtain ⟨i, _, hi⟩ := Finset.exists_mem_eq_sup Finset.univ Finset.univ_nonempty s
  exact ⟨i, Finset.mem_filter.2 ⟨Finset.mem_univ i, le_of_eq hi⟩⟩

/-- The first place at which a row is largest. -/
def pick (s : Fin 18 → EReal) : Fin 18 := (Finset.univ.filter fun i => top s ≤ s i).min' (top_attained s)

/-- Every entry is at most the largest. -/
theorem le_top {n : ℕ} (s : Fin n → EReal) (i : Fin n) : s i ≤ top s :=
  Finset.le_sup (f := s) (Finset.mem_univ i)

/-- The entry at `pick` is the largest. -/
theorem top_le_pick (s : Fin 18 → EReal) : top s ≤ s (pick s) :=
  (Finset.mem_filter.1 (Finset.min'_mem _ (top_attained s))).2

/-- `pick` is the first such place. -/
theorem pick_le (s : Fin 18 → EReal) (i : Fin 18) (h : top s ≤ s i) : pick s ≤ i :=
  Finset.min'_le _ _ (Finset.mem_filter.2 ⟨Finset.mem_univ i, h⟩)

/-! ## Constants -/

/-- The float word of minus infinity. -/
theorem bits_bot : Ideal.ofBits FTy.f32 4286578688#32 = ⊥ := by
  simp [Ideal.ofBits, Ideal.ieee]

/-! ## The position of the maximum, as the programs find it -/

/-- A place's number, read back from its 32-bit word. -/
theorem toInt_place (i : Fin 18) : (BitVec.ofNat 32 i.val).toInt = (i.val : ℤ) := by
  revert i; decide

/-- Equal words, equal places. -/
theorem place_inj (i j : Fin 18) : BitVec.ofNat 32 i.val = BitVec.ofNat 32 j.val ↔ i = j := by
  revert i j; decide

/-- The least number among the places at which a row is largest is `pick`. -/
theorem fold_min_pick (s : Fin 18 → EReal) :
    Finset.fold IntOp.minsi (2147483647#32) (fun x : Fin 18 => if top s ≤ s x then BitVec.ofNat 32 x.val else 18#32)
      Finset.univ = BitVec.ofNat 32 (pick s).val := by
  apply BitVec.eq_of_toInt_eq
  rw [toInt_place]
  have hm : ∀ x y : BitVec 32, (IntOp.minsi x y).toInt = min x.toInt y.toInt := by
    intro x y
    unfold IntOp.minsi
    simp only [BitVec.slt, decide_eq_true_eq]
    split
    · exact (min_eq_left (le_of_lt ‹_›)).symm
    · exact (min_eq_right (not_lt.1 ‹_›)).symm
  rw [← Finset.fold_hom (op := IntOp.minsi) (op' := min) (m := BitVec.toInt) (hm := hm)]
  apply le_antisymm
  · refine (Finset.fold_min_le _).2 (Or.inr ⟨pick s, Finset.mem_univ _, ?_⟩)
    rw [if_pos (top_le_pick s), toInt_place]
  · refine (Finset.le_fold_min _).2 ⟨?_, fun x _ => ?_⟩
    · have := (pick s).isLt
      have h : (2147483647#32 : BitVec 32).toInt = 2147483647 := by decide
      rw [h]; omega
    · split
      · rw [toInt_place]
        exact_mod_cast pick_le s x ‹_›
      · have := (pick s).isLt
        have h : (18#32 : BitVec 32).toInt = 18 := by decide
        rw [h]; omega

/-- `a` beats `b`: a larger value, or the same value with a number no larger. -/
def Beats (a b : EReal × BitVec 32) : Prop := b.1 < a.1 ∨ (a.1 = b.1 ∧ a.2.toInt ≤ b.2.toInt)

/-- `Beats` is transitive. -/
theorem Beats.trans {a b c : EReal × BitVec 32} (h : Beats a b) (h' : Beats b c) : Beats a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- A left fold by a step that keeps one of its two arguments, the better one, ends at an element that beats all. -/
theorem foldl_best (f : EReal × BitVec 32 → EReal × BitVec 32 → EReal × BitVec 32)
    (hf : ∀ a b, (f a b = a ∧ Beats a b) ∨ (f a b = b ∧ Beats b a)) (l : List (EReal × BitVec 32)) :
    ∀ a, (l.foldl f a = a ∨ l.foldl f a ∈ l) ∧ Beats (l.foldl f a) a ∧ ∀ p ∈ l, Beats (l.foldl f a) p := by
  induction l with
  | nil => exact fun a => ⟨Or.inl rfl, Or.inr ⟨rfl, le_rfl⟩, fun p hp => absurd hp List.not_mem_nil⟩
  | cons b l ih =>
    intro a
    rw [List.foldl_cons]
    obtain ⟨h1, h2, h3⟩ := ih (f a b)
    rcases hf a b with ⟨he, hb⟩ | ⟨he, hb⟩
    · rw [he] at h1 h2 h3 ⊢
      refine ⟨h1.imp id (List.mem_cons_of_mem b), h2, fun p hp => ?_⟩
      rcases List.mem_cons.1 hp with rfl | hp
      · exact h2.trans hb
      · exact h3 p hp
    · rw [he] at h1 h2 h3 ⊢
      refine ⟨?_, h2.trans hb, fun p hp => ?_⟩
      · rcases h1 with h1 | h1
        · exact Or.inr (by rw [h1]; exact List.mem_cons_self)
        · exact Or.inr (List.mem_cons_of_mem b h1)
      · rcases List.mem_cons.1 hp with rfl | hp
        · exact h2
        · exact h3 p hp

/-- Over the numbered entries of a row, starting from minus infinity with number 0, such a fold ends at `pick`. -/
theorem foldl_pick (f : EReal × BitVec 32 → EReal × BitVec 32 → EReal × BitVec 32)
    (hf : ∀ a b, (f a b = a ∧ Beats a b) ∨ (f a b = b ∧ Beats b a)) (s : Fin 18 → EReal)
    (l : List (EReal × BitVec 32)) (hl : ∀ p, p ∈ l ↔ ∃ i : Fin 18, p = (s i, BitVec.ofNat 32 i.val)) :
    (l.foldl f (⊥, 0#32)).2 = BitVec.ofNat 32 (pick s).val := by
  obtain ⟨h1, h2, h3⟩ := foldl_best f hf l (⊥, 0#32)
  generalize l.foldl f (⊥, 0#32) = r at h1 h2 h3
  have hp := h3 _ ((hl _).2 ⟨pick s, rfl⟩)
  have htop : ∀ i, s i ≤ s (pick s) := fun i => (le_top s i).trans (top_le_pick s)
  rcases h1 with h1 | h1
  · subst h1
    rcases hp with hp | ⟨hp, hk⟩
    · exact absurd hp not_lt_bot
    · apply BitVec.eq_of_toInt_eq
      have h0 : pick s ≤ 0 := pick_le s 0 (by
        have : top s ≤ ⊥ := (top_le_pick s).trans (le_of_eq hp.symm)
        exact this.trans bot_le)
      have : pick s = 0 := le_antisymm h0 (Fin.zero_le _)
      rw [this]; rfl
  · obtain ⟨i, rfl⟩ := (hl _).1 h1
    have hi : s (pick s) ≤ s i := by
      rcases hp with hp | ⟨hp, _⟩
      · exact le_of_lt hp
      · exact le_of_eq hp.symm
    have hle : pick s ≤ i := pick_le s i ((top_le_pick s).trans hi)
    have hge : i ≤ pick s := by
      rcases hp with hp | ⟨_, hk⟩
      · exact absurd hp (not_lt.2 (htop i))
      · rw [toInt_place, toInt_place] at hk
        exact_mod_cast hk
    rw [le_antisymm hle hge]

/-- The word of 16384. -/
theorem bits_16384 : Ideal.ofBits .f32 1182793728#32 = ((16384 : ℝ) : EReal) := by
  simp [Ideal.ofBits, Ideal.ieee, -EReal.coe_mul]; norm_num

/-- The word of two. -/
theorem bits_two : Ideal.ofBits .f32 1073741824#32 = ((2 : ℝ) : EReal) := by
  simp [Ideal.ofBits, Ideal.ieee, -EReal.coe_mul]; norm_num

/-- The word of one over 32768. -/
theorem bits_scale : Ideal.ofBits .f32 939524096#32 = ((1 / 32768 : ℝ) : EReal) := by
  simp [Ideal.ofBits, Ideal.ieee, -EReal.coe_mul]; norm_num

/-! ## Entropies are real -/

/-- The exponential of minus infinity. -/
theorem exp_bot : Ideal.exp ⊥ = 0 := rfl

/-- The exponential of plus infinity. -/
theorem exp_top : Ideal.exp ⊤ = ⊤ := rfl

/-- The exponential of a real number. -/
theorem exp_coe (r : ℝ) : Ideal.exp (r : EReal) = ((Real.exp r : ℝ) : EReal) := rfl

/-- An exponential is nowhere negative. -/
theorem exp_nonneg (x : EReal) : 0 ≤ Ideal.exp x := by
  induction x using EReal.rec with
  | bot => exact le_of_eq exp_bot.symm
  | top => rw [exp_top]; exact _root_.le_top
  | coe r => rw [exp_coe]; exact_mod_cast (Real.exp_pos r).le

/-- An exponential is positive away from minus infinity. -/
theorem exp_pos (x : EReal) (h : x ≠ ⊥) : 0 < Ideal.exp x := by
  induction x using EReal.rec with
  | bot => exact absurd rfl h
  | top => rw [exp_top]; exact EReal.coe_lt_top 0
  | coe r => rw [exp_coe]; exact_mod_cast Real.exp_pos r

/-- The logarithm of a positive number is not minus infinity. -/
theorem log_ne_bot (x : EReal) (h : 0 < x) : Ideal.log x ≠ ⊥ := by
  induction x using EReal.rec with
  | bot => exact absurd h not_lt_bot
  | top => exact fun h' => absurd (h' : (⊤ : EReal) = ⊥) (by simp)
  | coe r =>
    have hr : ¬ r ≤ 0 := not_le.2 (by exact_mod_cast h)
    have : Ideal.log (r : EReal) = ((Real.log r : ℝ) : EReal) := if_neg hr
    rw [this]; exact EReal.coe_ne_bot _

/-- The term `exp y · y` is a real number unless `y` is plus infinity. -/
theorem exp_mul_self_real (y : EReal) (h : y ≠ ⊤) : ((Ideal.exp y * y).toReal : EReal) = Ideal.exp y * y := by
  induction y using EReal.rec with
  | bot => rw [exp_bot, zero_mul]; simp
  | top => exact absurd rfl h
  | coe r => rw [exp_coe, ← EReal.coe_mul, EReal.toReal_coe]

/-- An entry less the largest is never plus infinity. -/
theorem shift_ne_top {n : ℕ} (z : Fin n → EReal) (j : Fin n) : shift z j ≠ ⊤ := by
  unfold shift
  have h := le_top z j
  rcases eq_or_ne (top z) ⊤ with ht | ht
  · rw [ht, sub_eq_add_neg]; simp
  · rcases eq_or_ne (top z) ⊥ with hb | hb
    · rw [hb] at h; rw [le_bot_iff.1 h, sub_eq_add_neg]; simp
    · rw [sub_eq_add_neg]
      exact (EReal.add_lt_top (ne_top_of_le_ne_top ht h) (by simpa using hb)).ne

/-- A log-softmax is never plus infinity. -/
theorem logSm_ne_top {n : ℕ} (z : Fin n → EReal) (j : Fin n) : logSm z j ≠ ⊤ := by
  unfold logSm
  rw [sub_eq_add_neg]
  rcases eq_or_ne (shift z j) ⊥ with hb | hb
  · rw [hb]; simp
  · refine (EReal.add_lt_top (shift_ne_top z j) ?_).ne
    have hS : 0 < ∑ k, Ideal.exp (shift z k) :=
      (exp_pos _ hb).trans_le (Finset.single_le_sum (f := fun k => Ideal.exp (shift z k))
        (fun k _ => exp_nonneg _) (Finset.mem_univ j))
    simpa using log_ne_bot _ hS

/-- An entropy term is a real number. -/
theorem entTerm_eq {n : ℕ} (z : Fin n → EReal) (j : Fin n) : entTerm z j = (entR z j : EReal) :=
  (exp_mul_self_real _ (logSm_ne_top z j)).symm

/-- A sum of real numbers taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Division of real numbers. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-! ## Tables of zeros and ones -/

/-- A sum against a table's row that holds a one at a single place. -/
theorem sum_pick {n : ℕ} (p : Fin n) (f : Fin n → EReal) : ∑ k, (if k = p then (1 : EReal) else 0) * f k = f p := by
  rw [Finset.sum_eq_single p]
  · simp
  · intro k _ hk; simp [hk]
  · exact fun h => absurd (Finset.mem_univ p) h

/-- The place of entry `q` in action `p`'s group of 32. -/
def cell (p : Fin 18) (q : Fin 32) : Fin 576 := ⟨p.val * 32 + q.val, by omega⟩

/-- A sum that a table of zeros and ones narrows to one action's entry. -/
theorem sum_cell (p : Fin 18) (q : Fin 32) (R : Fin 576 → EReal) (E : Fin 576 → Fin 18 → EReal)
    (hR : ∀ i, R i = if i.val % 32 = q.val then 1 else 0) (hE : ∀ i k, E i k = if i.val / 32 = k.val then 1 else 0)
    (v : Fin 576 → EReal) :
    ∑ i, R i * ((∑ k, E i k * (if k = p then (1 : EReal) else 0)) * v i) = v (cell p q) := by
  have h : ∀ i, R i * ((∑ k, E i k * (if k = p then (1 : EReal) else 0)) * v i)
      = (if i = cell p q then (1 : EReal) else 0) * v i := by
    intro i
    have h1 : ∑ k, E i k * (if k = p then (1 : EReal) else 0) = E i p := by
      rw [← sum_pick p (E i)]
      exact Finset.sum_congr rfl fun k _ => mul_comm _ _
    rw [h1, hR, hE]
    have hi : i = cell p q ↔ i.val % 32 = q.val ∧ i.val / 32 = p.val := by
      rw [Fin.ext_iff]; unfold cell; simp only; omega
    by_cases h2 : i.val % 32 = q.val <;> by_cases h3 : i.val / 32 = p.val
    · rw [if_pos h2, if_pos h3, if_pos (hi.2 ⟨h2, h3⟩), one_mul]
    · rw [if_neg h3, zero_mul, mul_zero, if_neg fun h => h3 (hi.1 h).2, zero_mul]
    · rw [if_neg h2, zero_mul, if_neg fun h => h2 (hi.1 h).1, zero_mul]
    · rw [if_neg h2, zero_mul, if_neg fun h => h2 (hi.1 h).1, zero_mul]
  rw [Finset.sum_congr rfl fun i _ => h i, sum_pick]

/-- A sum over the critic's 259 inputs: two observations of 128, the agent's number, two actions. -/
theorem sum_259 (f : Fin 259 → EReal) :
    ∑ i, f i = (∑ k : Fin 128, f ⟨k.val, by omega⟩) + (∑ k : Fin 128, f ⟨128 + k.val, by omega⟩) + f 256
      + ∑ c : Fin 2, f ⟨257 + c.val, by omega⟩ := by
  have h1 : ∑ i : Fin 259, f i = ∑ i : Fin (128 + (128 + (1 + 2))), f ⟨i.val, i.isLt⟩ := rfl
  rw [h1, Fin.sum_univ_add, Fin.sum_univ_add, Fin.sum_univ_add, Fin.sum_univ_one]
  simp only [Fin.val_castAdd, Fin.val_natAdd, ← add_assoc]
  rfl

end Cert.Proof.Spec
-- ==== Proof.Model.lean ====
module

public import proofs.«01_k».proof.Proof.Spec

@[expose] public section

noncomputable section

namespace Cert.Proof.Spec

open Idealize.ShloMosaic

/-- The arrays both programs start from, read entry by entry. -/
structure Inp (N : ℕ) where
  /-- the observations -/
  x : Fin N → Fin 2 → Fin 128 → EReal
  /-- the actor's weights -/
  W1 : Fin 128 → Fin 64 → EReal
  b1 : Fin 64 → EReal
  Wa : Fin 64 → Fin 18 → EReal
  ba : Fin 18 → EReal
  /-- the opponent head's weights -/
  Wo : Fin 64 → Fin 18 → EReal
  bo : Fin 18 → EReal
  /-- the critic's weights -/
  W3 : Fin 259 → Fin 64 → EReal
  b3 : Fin 64 → EReal
  W4 : Fin 64 → Fin 576 → EReal
  b4 : Fin 576 → EReal
  /-- the uniform draws -/
  u : Fin 2 → Fin 18 → Fin N → EReal

variable {N : ℕ} (I : Inp N)

/-- The logits of agent `a` at sample `b`. -/
def logits (a : Fin 2) (b : Fin N) : Fin 18 → EReal := aff (feat (I.x b a) I.W1 I.b1) I.Wa I.ba

/-- The opponent head's logits. -/
def opps (a : Fin 2) (b : Fin N) : Fin 18 → EReal := aff (feat (I.x b a) I.W1 I.b1) I.Wo I.bo

/-- The sampled action. -/
def act (a : Fin 2) (b : Fin N) : Fin 18 := pick fun j => noise (I.u a j b) + logits I a b j

/-- The log-probability of the sampled action. -/
def alp (a : Fin 2) (b : Fin N) : EReal := logSm (logits I a b) (act I a b)

/-- The sum over all samples of the negated entropies of a family of logits. -/
def ents (z : Fin N → Fin 18 → EReal) : ℝ := ∑ b, ∑ j, entR (z b) j

/-- The entropy of two families of logits: the mean over the samples, then over the two agents. -/
def meanEnt (z : Fin 2 → Fin 16384 → Fin 18 → EReal) : EReal := ((-(ents (z 0) + ents (z 1)) / 32768 : ℝ) : EReal)

/-- An action's or an agent's number among the extended reals. -/
def num (n : ℕ) : EReal := ((n : ℝ) : EReal)

/-- The critic's 259 inputs: two observations, a number, two actions. -/
def cvec (x0 x1 : Fin 128 → EReal) (g : EReal) (p : Fin 2 → EReal) (i : Fin 259) : EReal :=
  if h : i.val < 128 then x0 ⟨i.val, h⟩
  else if h : i.val < 256 then x1 ⟨i.val - 128, by omega⟩
  else if h : i.val < 257 then g
  else p ⟨i.val - 257, by omega⟩

/-- The critic's inputs for agent `a` at sample `b`. -/
def cin (a : Fin 2) (b : Fin N) : Fin 259 → EReal :=
  cvec (I.x b 0) (I.x b 1) (num a.val) (fun c => num (act I c b).val)

/-- The value of agent `a` at sample `b`. -/
def value (a : Fin 2) (b : Fin N) (q : Fin 32) : EReal :=
  aff (feat (cin I a b) I.W3 I.b3) I.W4 I.b4 (cell (act I a b) q)

/-- The mean over the samples of the entropies. -/
def sampleEnt (z : Fin 16384 → Fin 18 → EReal) : EReal := Ideal.div (∑ b, -∑ j, entTerm (z b) j) ((16384 : ℝ) : EReal)

/-- The mean entropy as the reference takes it. -/
theorem meanEnt_halves (z : Fin 2 → Fin 16384 → Fin 18 → EReal) :
    Ideal.div (sampleEnt (z 0) + sampleEnt (z 1)) ((2 : ℝ) : EReal) = meanEnt z := by
  have h : ∀ z : Fin 16384 → Fin 18 → EReal, ∑ b, -∑ j, entTerm (z b) j = ((-ents z : ℝ) : EReal) := by
    intro z
    rw [ents, ← Finset.sum_neg_distrib, ← coe_sum]
    refine Finset.sum_congr rfl fun b _ => ?_
    rw [EReal.coe_neg, ← coe_sum]
    exact congrArg _ (Finset.sum_congr rfl fun j _ => entTerm_eq _ _)
  unfold sampleEnt
  rw [h, h, div_coe _ _ (by norm_num), div_coe _ _ (by norm_num), ← EReal.coe_add, div_coe _ _ (by norm_num)]
  unfold meanEnt
  congr 1
  ring

/-- The log-softmax as the programs spell it. -/
theorem logSm_of {n : ℕ} {w z : Fin n → EReal} (h : ∀ j, w j = z j) (j : Fin n) :
    w j - max (Ideal.ofBits FTy.f32 4286578688#32) (Finset.fold max (Ideal.ofBits FTy.f32 4286578688#32) (fun x => w x) Finset.univ)
      - Ideal.log (∑ k, Ideal.exp (w k - max (Ideal.ofBits FTy.f32 4286578688#32)
          (Finset.fold max (Ideal.ofBits FTy.f32 4286578688#32) (fun x => w x) Finset.univ))) = logSm z j := by
  obtain rfl : w = z := funext h
  rw [bits_bot, max_eq_right bot_le]
  rfl

/-- The critic's sum over its inputs, taken part by part. -/
theorem cvec_sum (x0 x1 : Fin 128 → EReal) (g : EReal) (p : Fin 2 → EReal) (W : Fin 259 → EReal) (c : EReal) :
    (∑ k : Fin 128, W ⟨k.val, by omega⟩ * x0 k) + (∑ k : Fin 128, W ⟨128 + k.val, by omega⟩ * x1 k) + c
        + (∑ k : Fin 2, W ⟨257 + k.val, by omega⟩ * p k) + g * W 256
      = (∑ i, cvec x0 x1 g p i * W i) + c := by
  have h0 : ∀ k : Fin 128, cvec x0 x1 g p ⟨k.val, by omega⟩ = x0 k := fun k => dif_pos k.isLt
  have h1 : ∀ k : Fin 128, cvec x0 x1 g p ⟨128 + k.val, by omega⟩ = x1 k := by
    intro k
    have := k.isLt
    unfold cvec
    rw [dif_neg (by simp), dif_pos (by simp; omega)]
    exact congrArg x1 (Fin.ext (by simp))
  have h2 : cvec x0 x1 g p 256 = g := by
    unfold cvec
    rw [dif_neg (by decide), dif_neg (by decide), dif_pos (by decide)]
  have h3 : ∀ k : Fin 2, cvec x0 x1 g p ⟨257 + k.val, by omega⟩ = p k := by
    intro k
    have := k.isLt
    unfold cvec
    rw [dif_neg (by simp only; omega), dif_neg (by simp only; omega), dif_neg (by simp only; omega)]
    exact congrArg p (Fin.ext (by simp))
  rw [sum_259]
  simp only [h0, h1, h2, h3, mul_comm]
  ac_rfl

/-- The softmax as the reference spells it. -/
theorem soft_of {n : ℕ} {w z : Fin n → EReal} (h : ∀ j, w j = z j) (j : Fin n) :
    Ideal.div (Ideal.exp (w j - max (Ideal.ofBits FTy.f32 4286578688#32)
        (Finset.fold max (Ideal.ofBits FTy.f32 4286578688#32) (fun x => w x) Finset.univ)))
      (∑ k, Ideal.exp (w k - max (Ideal.ofBits FTy.f32 4286578688#32)
          (Finset.fold max (Ideal.ofBits FTy.f32 4286578688#32) (fun x => w x) Finset.univ))) = soft z j := by
  obtain rfl : w = z := funext h
  rw [bits_bot, max_eq_right bot_le]
  rfl

/-- That mean as the reference spells it. -/
theorem sampleEnt_of {w z : Fin 16384 → Fin 18 → EReal} (h : ∀ b j, w b j = logSm (z b) j) :
    Ideal.div (∑ b, -∑ j, Ideal.exp (w b j) * w b j) (Ideal.ofBits FTy.f32 1182793728#32) = sampleEnt z := by
  have hw : w = fun b j => logSm (z b) j := by funext b j; exact h b j
  rw [bits_16384, hw]
  rfl

/-- The same with a sum over a single agent between the two. -/
theorem sampleEnt_of' {w z : Fin 16384 → Fin 18 → EReal} (h : ∀ b j, w b j = logSm (z b) j) :
    Ideal.div (∑ b, ∑ _a : Fin 1, -∑ j, Ideal.exp (w b j) * w b j) (Ideal.ofBits FTy.f32 1182793728#32) = sampleEnt z := by
  simp only [Fin.sum_univ_one]
  exact sampleEnt_of h

/-- An affine map of features, entry by entry. -/
theorem aff_feat_of {K H N : ℕ} {x x' : Fin K → EReal} {W W' : Fin K → Fin H → EReal} {c c' : Fin H → EReal}
    {U U' : Fin H → Fin N → EReal} {d d' : Fin N → EReal} (hx : ∀ k, x k = x' k) (hW : ∀ k h, W k h = W' k h)
    (hc : ∀ h, c h = c' h) (hU : ∀ h j, U h j = U' h j) (hd : ∀ j, d j = d' j) (j : Fin N) :
    (∑ h, Ideal.tanh ((∑ k, x k * W k h) + c h) * U h j) + d j = aff (feat x' W' c') U' d' j := by
  obtain rfl : x = x' := funext hx
  obtain rfl : W = W' := by funext k h; exact hW k h
  obtain rfl : c = c' := funext hc
  obtain rfl : U = U' := by funext k h; exact hU k h
  obtain rfl : d = d' := funext hd
  rfl

/-- The logits, entry by entry. -/
theorem logits_of {x : Fin 128 → EReal} {W : Fin 128 → Fin 64 → EReal} {c : Fin 64 → EReal}
    {U : Fin 64 → Fin 18 → EReal} {d : Fin 18 → EReal} (a : Fin 2) (b : Fin N) (hx : ∀ k, x k = I.x b a k) (hW : ∀ k h, W k h = I.W1 k h)
    (hc : ∀ h, c h = I.b1 h) (hU : ∀ h j, U h j = I.Wa h j) (hd : ∀ j, d j = I.ba j) (j : Fin 18) :
    (∑ h, Ideal.tanh ((∑ k, x k * W k h) + c h) * U h j) + d j = logits I a b j :=
  aff_feat_of hx hW hc hU hd j

/-- The opponent head's logits, entry by entry. -/
theorem opps_of {x : Fin 128 → EReal} {W : Fin 128 → Fin 64 → EReal} {c : Fin 64 → EReal}
    {U : Fin 64 → Fin 18 → EReal} {d : Fin 18 → EReal} (a : Fin 2) (b : Fin N) (hx : ∀ k, x k = I.x b a k) (hW : ∀ k h, W k h = I.W1 k h)
    (hc : ∀ h, c h = I.b1 h) (hU : ∀ h j, U h j = I.Wo h j) (hd : ∀ j, d j = I.bo j) (j : Fin 18) :
    (∑ h, Ideal.tanh ((∑ k, x k * W k h) + c h) * U h j) + d j = opps I a b j :=
  aff_feat_of hx hW hc hU hd j

/-- Noise and logits, entry by entry. -/
theorem noisy_of {u u' z z' : EReal} (hu : u = u') (hz : z = z') : -Ideal.log (-Ideal.log u) + z = noise u' + z' := by
  rw [hu, hz]; rfl

end Cert.Proof.Spec
-- ==== Proof.Pay.lean ====
module

public import proofs.«01_k».proof.Proof.Gen.KernelIdeal.Frame
public import proofs.«01_k».proof.Proof.Model
public import Idealize.ShloMosaic.Lib.Pointwise

@[expose] public section

set_option maxRecDepth 16384

noncomputable section

namespace Cert.Proof.Kern

open Cert.KernelIdeal Cert.KernelIdeal.Gen Idealize.ShloMosaic Idealize.SL.Sem Cert.Proof.Spec

/-! ## Pure steps -/

/-- A product of a matrix with a row, plus a bias, with the factors the other way round. -/
theorem aff_swap {K H : ℕ} (x : Fin K → EReal) (W : Fin K → Fin H → EReal) (c : Fin H → EReal) (h : Fin H) :
    (∑ k, W k h * x k) + c h = aff x W c h := by
  unfold aff; exact congrArg (· + c h) (Finset.sum_congr rfl fun k _ => mul_comm _ _)

/-- An equality test of two places, as a float. -/
theorem onehot (i j : Fin 18) :
    @Eq EReal (FloatOps.sitofp (F := Ideal) .f32 (BitVec.setWidth 32 (IntOp.cmpi .eq (BitVec.ofNat 32 i.val) (BitVec.ofNat 32 j.val))))
      (if i = j then 1 else 0) := by
  have h : ∀ c : BitVec 32, @Eq EReal (FloatOps.sitofp (F := Ideal) .f32 c) ((c.toInt : ℝ) : EReal) := fun _ => rfl
  rw [h]
  by_cases hij : i = j
  · rw [if_pos hij, hij]
    have : (BitVec.setWidth 32 (IntOp.cmpi .eq (BitVec.ofNat 32 j.val) (BitVec.ofNat 32 j.val))).toInt = 1 := by
      simp [IntOp.cmpi]
    rw [this]; simp
  · rw [if_neg hij]
    have : (BitVec.setWidth 32 (IntOp.cmpi .eq (BitVec.ofNat 32 i.val) (BitVec.ofNat 32 j.val))).toInt = 0 := by
      have hne : BitVec.ofNat 32 i.val ≠ BitVec.ofNat 32 j.val := fun h => hij ((place_inj i j).1 h)
      have hb : (BitVec.ofNat 32 i.val == BitVec.ofNat 32 j.val) = false := beq_false_of_ne hne
      simp only [IntOp.cmpi, hb]
      decide
    rw [this]; simp

/-- The block's sum of negated entropies. -/
theorem ents_block {z : Fin 4096 → Fin 18 → EReal} :
    (0 : EReal) - ∑ j : Fin 18, ∑ b : Fin 4096, Ideal.exp (logSm (z b) j) * logSm (z b) j = ((-ents z : ℝ) : EReal) := by
  have h : ∑ j : Fin 18, ∑ b : Fin 4096, Ideal.exp (logSm (z b) j) * logSm (z b) j = ((ents z : ℝ) : EReal) := by
    rw [Finset.sum_comm, ents, ← coe_sum]
    refine Finset.sum_congr rfl fun b _ => ?_
    rw [← coe_sum]
    exact Finset.sum_congr rfl fun j _ => entTerm_eq _ _
  rw [h, zero_sub, EReal.coe_neg]

/-! ## The stored values -/

section

variable {v0 : Vec Ideal S4096x1x128 .f32} {X : Fin 4096 → Fin 128 → EReal} (hX : ∀ b k, v0 (ix3 b 0 k) = X b k)
  {v24 : IVec S18x4096 32} (hi : ∀ j b, v24 (ix2 j b) = BitVec.ofNat 32 j.val)

include hX in
theorem pay6_of (b : Fin 4096) (k : Fin 128) : k0_pay6 (F := Ideal) v0 (ix2 b k) = X b k := by
  pointwise [k0_pay6]
  exact hX b k

include hX in
theorem pay7_of (b : Fin 4096) (k : Fin 128) : k0_pay7 (F := Ideal) v0 (ix2 b k) = X b k := by
  pointwise [k0_pay7]
  exact hX b k

theorem pay8_eq (v : Vec Ideal S64x128 .f32) (i : Fin 64) (j : Fin 128) : k0_pay8 (F := Ideal) v (ix2 i j) = v (ix2 i j) := by
  pointwise [k0_pay8]
theorem pay9_eq (v : Vec Ideal S64x1 .f32) (i : Fin 64) : k0_pay9 (F := Ideal) v (ix2 i 0) = v (ix2 i 0) := by
  pointwise [k0_pay9]
theorem pay12_eq (v : Vec Ideal S18x64 .f32) (i : Fin 18) (j : Fin 64) : k0_pay12 (F := Ideal) v (ix2 i j) = v (ix2 i j) := by
  pointwise [k0_pay12]
theorem pay13_eq (v : Vec Ideal S18x1 .f32) (i : Fin 18) : k0_pay13 (F := Ideal) v (ix2 i 0) = v (ix2 i 0) := by
  pointwise [k0_pay13]
theorem pay14_eq (v : Vec Ideal S18x64 .f32) (i : Fin 18) (j : Fin 64) : k0_pay14 (F := Ideal) v (ix2 i j) = v (ix2 i j) := by
  pointwise [k0_pay14]
theorem pay15_eq (v : Vec Ideal S18x1 .f32) (i : Fin 18) : k0_pay15 (F := Ideal) v (ix2 i 0) = v (ix2 i 0) := by
  pointwise [k0_pay15]
theorem pay38_eq (v : Vec Ideal S64x259 .f32) (i : Fin 64) (j : Fin 259) : k0_pay38 (F := Ideal) v (ix2 i j) = v (ix2 i j) := by
  pointwise [k0_pay38]
theorem pay40_eq (v : Vec Ideal S576x64 .f32) (i : Fin 576) (j : Fin 64) : k0_pay40 (F := Ideal) v (ix2 i j) = v (ix2 i j) := by
  pointwise [k0_pay40]
theorem pay41_eq (v : Vec Ideal S32x18 .f32) (i : Fin 32) (j : Fin 18) : k0_pay41 (F := Ideal) v (ix2 i j) = v (ix2 i j) := by
  pointwise [k0_pay41]

/-- The features of a block's samples. -/
abbrev ft (X : Fin 4096 → Fin 128 → EReal) (v4 : Vec Ideal S64x128 .f32) (v6 : Vec Ideal S64x1 .f32) (b : Fin 4096) : Fin 64 → EReal :=
  feat (X b) (fun k h => v4 (ix2 h k)) (fun h => v6 (ix2 h 0))

/-- A head's logits of a block's samples. -/
abbrev hd (f : Fin 4096 → Fin 64 → EReal) (w : Vec Ideal S18x64 .f32) (c : Vec Ideal S18x1 .f32) (b : Fin 4096) : Fin 18 → EReal :=
  aff (f b) (fun h j => w (ix2 j h)) (fun j => c (ix2 j 0))

include hX in
/-- Agent 0's features. -/
theorem pay10_of (v4 : Vec Ideal S64x128 .f32) (v6 : Vec Ideal S64x1 .f32) (h : Fin 64) (b : Fin 4096) :
    k0_pay10 (F := Ideal) v0 v4 v6 (ix2 h b) = ft X v4 v6 b h := by
  pointwise [k0_pay10]
  simp only [pay8_eq, pay9_eq, pay6_of hX]
  exact congrArg Ideal.tanh (aff_swap (X b) (fun k h => v4 (ix2 h k)) (fun h => v6 (ix2 h 0)) h)

include hX in
/-- Agent 1's features. -/
theorem pay11_of (v4 : Vec Ideal S64x128 .f32) (v6 : Vec Ideal S64x1 .f32) (h : Fin 64) (b : Fin 4096) :
    k0_pay11 (F := Ideal) v0 v4 v6 (ix2 h b) = ft X v4 v6 b h := by
  pointwise [k0_pay11]
  simp only [pay8_eq, pay9_eq, pay7_of hX]
  exact congrArg Ideal.tanh (aff_swap (X b) (fun k h => v4 (ix2 h k)) (fun h => v6 (ix2 h 0)) h)

include hX in
/-- Agent 0's logits. -/
theorem pay16_of (v4 : Vec Ideal S64x128 .f32) (v6 : Vec Ideal S64x1 .f32) (w : Vec Ideal S18x64 .f32) (c : Vec Ideal S18x1 .f32)
    (j : Fin 18) (b : Fin 4096) : k0_pay16 (F := Ideal) v0 v4 v6 w c (ix2 j b) = hd (ft X v4 v6) w c b j := by
  pointwise [k0_pay16]
  simp only [pay12_eq, pay13_eq, pay10_of hX]
  exact aff_swap (ft X v4 v6 b) (fun h j => w (ix2 j h)) (fun j => c (ix2 j 0)) j

/-- The noise of a draw, as the kernel spells it. -/
theorem noise_of (u : EReal) : (0 : EReal) - Ideal.log (0 - Ideal.log u) = noise u := by
  rw [zero_sub, zero_sub]; rfl

section

variable {v27 : FVec Ideal S18x4096 .f32} {z : Fin 4096 → Fin 18 → EReal} (hz : ∀ j b, v27 (ix2 j b) = z b j)
  (v28 : Vec Ideal S18x4096 .f32)

/-- The action a block's sample takes. -/
abbrev pk (z : Fin 4096 → Fin 18 → EReal) (v28 : Vec Ideal S18x4096 .f32) (b : Fin 4096) : Fin 18 :=
  pick fun j => noise (v28 (ix2 j b)) + z b j

include hi hz in
/-- Agent 0's action. -/
theorem pay19_of (b : Fin 4096) :
    k0_pay19 v24 v27 (k0_pay17 (F := Ideal) v28) (k0_pay18 (F := Ideal)) (ix2 0 b) = BitVec.ofNat 32 (pk z v28 b).val := by
  pointwise [k0_pay19, k0_pay17, k0_pay18]
  simp only [hi, hz, bits_bot, noise_of, add_comm (z b _)]
  exact fold_min_pick _

include hi hz in
/-- Agent 0's action as a row of zeros and a one. -/
theorem pay20_of (j : Fin 18) (b : Fin 4096) :
    k0_pay20 v24 v27 (k0_pay17 (F := Ideal) v28) (k0_pay18 (F := Ideal)) (ix2 j b) = if j = pk z v28 b then 1 else 0 := by
  pointwise [k0_pay20]
  rw [hi, pay19_of hi hz]
  exact onehot _ _

include hz in
/-- Agent 0's log-softmax. -/
theorem pay21_of (j : Fin 18) (b : Fin 4096) : k0_pay21 v27 (ix2 j b) = logSm (z b) j := by
  pointwise [k0_pay21]
  simp only [hz, bits_bot]
  rfl

include hi hz in
/-- The log-probability of agent 0's action. -/
theorem pay22_of (b : Fin 4096) :
    k0_pay22 v24 v27 (k0_pay17 (F := Ideal) v28) (k0_pay18 (F := Ideal)) (ix2 0 b) = logSm (z b) (pk z v28 b) := by
  pointwise [k0_pay22]
  simp only [pay20_of hi hz, pay21_of hz]
  exact sum_pick _ _

include hz in
/-- The block's entropies for agent 0. -/
theorem pay23_of : @Eq EReal (k0_pay23 v27) ((-ents z : ℝ) : EReal) := by
  pointwise [k0_pay23]
  simp only [pay21_of hz]
  exact ents_block

/-- The same of any log-softmax. -/
theorem pay25_of {v81 : FVec Ideal S18x4096 .f32} (h : ∀ j b, v81 (ix2 j b) = logSm (z b) j) : @Eq EReal (k0_pay25 v81) ((-ents z : ℝ) : EReal) := by
  pointwise [k0_pay25]
  simp only [h]
  exact ents_block

end

section

variable {v15 : FVec Ideal S64x4096 .f32} {f : Fin 4096 → Fin 64 → EReal} (hf : ∀ h b, v15 (ix2 h b) = f b h)
  (w : Vec Ideal S18x64 .f32) (c : Vec Ideal S18x1 .f32) (v28 : Vec Ideal S18x4096 .f32)

include hf in
/-- The opponent head's log-softmax for agent 0. -/
theorem pay24_of (j : Fin 18) (b : Fin 4096) : k0_pay24 v15 (k0_pay14 w) (k0_pay15 c) (ix2 j b) = logSm (hd f w c b) j := by
  pointwise [k0_pay24]
  simp only [pay14_eq, pay15_eq, hf, bits_bot, aff_swap (f b) (fun h j => w (ix2 j h)) (fun j => c (ix2 j 0))]
  rfl

include hf in
/-- Agent 1's logits. -/
theorem pay26_of (j : Fin 18) (b : Fin 4096) : k0_pay26 v15 (k0_pay12 w) (k0_pay13 c) (ix2 j b) = hd f w c b j := by
  pointwise [k0_pay26]
  simp only [pay12_eq, pay13_eq, hf]
  exact aff_swap (f b) (fun h j => w (ix2 j h)) (fun j => c (ix2 j 0)) j

include hf hi in
/-- Agent 1's action. -/
theorem pay27_of (b : Fin 4096) :
    k0_pay27 v15 (k0_pay12 w) (k0_pay13 c) v24 v28 (ix2 0 b) = BitVec.ofNat 32 (pk (hd f w c) v28 b).val := by
  pointwise [k0_pay27]
  simp only [pay26_of hf, hi, bits_bot, noise_of, add_comm (hd f w c b _)]
  exact fold_min_pick _

include hf hi in
/-- Agent 1's action as a row of zeros and a one. -/
theorem pay28_of (j : Fin 18) (b : Fin 4096) :
    k0_pay28 v15 (k0_pay12 w) (k0_pay13 c) v24 v28 (ix2 j b) = if j = pk (hd f w c) v28 b then 1 else 0 := by
  pointwise [k0_pay28]
  rw [hi, pay27_of hi hf]
  exact onehot _ _

include hf in
/-- Agent 1's log-softmax. -/
theorem pay29_of (j : Fin 18) (b : Fin 4096) : k0_pay29 v15 (k0_pay12 w) (k0_pay13 c) (ix2 j b) = logSm (hd f w c b) j := by
  pointwise [k0_pay29]
  simp only [pay26_of hf, bits_bot]
  rfl

include hf hi in
/-- The log-probability of agent 1's action. -/
theorem pay30_of (b : Fin 4096) :
    k0_pay30 v15 (k0_pay12 w) (k0_pay13 c) v24 v28 (ix2 0 b) = logSm (hd f w c b) (pk (hd f w c) v28 b) := by
  pointwise [k0_pay30]
  simp only [pay28_of hi hf, pay29_of hf]
  exact sum_pick _ _

include hf in
/-- A sum with the block's entropies for agent 1. -/
theorem pay32_of (e : EReal) :
    @Eq EReal (k0_pay32 (F := Ideal) e (k0_pay31 v15 (k0_pay12 w) (k0_pay13 c))) (e + ((-ents (hd f w c) : ℝ) : EReal)) := by
  pointwise [k0_pay32, k0_pay31]
  simp only [pay29_of hf]
  exact congrArg (e + ·) ents_block

include hf in
/-- The opponent head's logits for agent 1, less the largest. -/
theorem pay33_of (j : Fin 18) (b : Fin 4096) : k0_pay33 v15 (k0_pay14 w) (k0_pay15 c) (ix2 j b) = shift (hd f w c b) j := by
  pointwise [k0_pay33]
  simp only [pay14_eq, pay15_eq, hf, bits_bot, aff_swap (f b) (fun h j => w (ix2 j h)) (fun j => c (ix2 j 0))]
  rfl

include hf in
/-- A sum with the block's entropies of the opponent head for agent 1. -/
theorem pay34_of (e : EReal) :
    @Eq EReal (k0_pay34 (F := Ideal) v15 (k0_pay14 w) (k0_pay15 c) e) (e + ((-ents (hd f w c) : ℝ) : EReal)) := by
  pointwise [k0_pay34]
  simp only [pay33_of hf]
  exact congrArg (e + ·) ents_block

include hf in
/-- The opponent head's probabilities for agent 1. -/
theorem pay35_of (j : Fin 18) (b : Fin 4096) : k0_pay35 v15 (k0_pay14 w) (k0_pay15 c) (ix3 j 0 b) = soft (hd f w c b) j := by
  pointwise [k0_pay35]
  simp only [pay33_of hf]
  rfl

end

end

end Cert.Proof.Kern
-- ==== Proof.Pay2.lean ====
module

public import proofs.«01_k».proof.Proof.Pay

@[expose] public section

set_option maxRecDepth 16384

noncomputable section

namespace Cert.Proof.Kern

open Cert.KernelIdeal Cert.KernelIdeal.Gen Idealize.ShloMosaic Idealize.SL.Sem Cert.Proof.Spec

/-- The two agents' rows of whole numbers, one under the other. -/
theorem pay36_of {v43 v108 : IVec S1x4096 32} {p : Fin 2 → Fin 4096 → Fin 18} (h0 : ∀ b, v43 (ix2 0 b) = BitVec.ofNat 32 (p 0 b).val)
    (h1 : ∀ b, v108 (ix2 0 b) = BitVec.ofNat 32 (p 1 b).val) (a : Fin 2) (b : Fin 4096) :
    k0_pay36 v43 v108 (ix2 a b) = BitVec.ofNat 32 (p a b).val := by
  fin_cases a
  · pointwise [k0_pay36]
    exact h0 b
  · pointwise [k0_pay36]
    exact h1 b

/-- The two agents' rows of floats, one under the other. -/
theorem pay37_of {v60 v125 : FVec Ideal S1x4096 .f32} {p : Fin 2 → Fin 4096 → EReal} (h0 : ∀ b, v60 (ix2 0 b) = p 0 b)
    (h1 : ∀ b, v125 (ix2 0 b) = p 1 b) (a : Fin 2) (b : Fin 4096) :
    k0_pay37 v60 v125 (ix2 a b) = p a b := by
  fin_cases a
  · pointwise [k0_pay37]
    exact h0 b
  · pointwise [k0_pay37]
    exact h1 b

/-- A place's number as a float. -/
theorem num_of (i : Fin 18) : @Eq EReal (FloatOps.sitofp (F := Ideal) .f32 (BitVec.ofNat 32 i.val)) (num i.val) := by
  have h : ∀ c : BitVec 32, @Eq EReal (FloatOps.sitofp (F := Ideal) .f32 c) ((c.toInt : ℝ) : EReal) := fun _ => rfl
  rw [h, toInt_place]
  unfold num
  push_cast
  rfl

section

variable {v1 v3 : FVec Ideal S4096x128 .f32} {X0 X1 : Fin 4096 → Fin 128 → EReal} (hX0 : ∀ b k, v1 (ix2 b k) = X0 b k)
  (hX1 : ∀ b k, v3 (ix2 b k) = X1 b k) {v164 : IVec S2x4096 32} {p : Fin 2 → Fin 4096 → Fin 18}
  (hp : ∀ a b, v164 (ix2 a b) = BitVec.ofNat 32 (p a b).val) (v168 : Vec Ideal S64x259 .f32) (v175 : Vec Ideal S64x1 .f32)
  (v184 : Vec Ideal S576x64 .f32)

/-- The critic's hidden row before the tangent, for agent `a`. -/
abbrev pre (X0 X1 : Fin 4096 → Fin 128 → EReal) (p : Fin 2 → Fin 4096 → Fin 18) (v168 : Vec Ideal S64x259 .f32) (v175 : Vec Ideal S64x1 .f32)
    (a : Fin 2) (b : Fin 4096) : Fin 64 → EReal :=
  aff (cvec (X0 b) (X1 b) (num a.val) (fun c => num (p c b).val)) (fun k h => v168 (ix2 h k)) (fun h => v175 (ix2 h 0))

include hX0 hX1 hp in
/-- The part of the critic's hidden row that both agents share, with agent `a`'s own part added. -/
theorem pay39_of (h : Fin 64) (b : Fin 4096) (a : Fin 2) :
    k0_pay39 v1 v3 v164 v168 v175 (ix2 h b) + num a.val * v168 (ix2 h 256) = pre X0 X1 p v168 v175 a b h := by
  pointwise [k0_pay39]
  simp only [hX0, hX1, hp, pay38_eq, num_of]
  exact cvec_sum (X0 b) (X1 b) (num a.val) (fun c => num (p c b).val) (fun i => v168 (ix2 h i)) (v175 (ix2 h 0))

include hX0 hX1 hp in
/-- Agent 0's hidden row. -/
theorem pay39_zero (h : Fin 64) (b : Fin 4096) : k0_pay39 v1 v3 v164 v168 v175 (ix2 h b) = pre X0 X1 p v168 v175 0 b h := by
  rw [← pay39_of hX0 hX1 hp v168 v175 h b 0]
  simp [num]

include hX0 hX1 hp in
/-- Agent 1's hidden row. -/
theorem pay39_one (h : Fin 64) (b : Fin 4096) :
    k0_pay39 v1 v3 v164 v168 v175 (ix2 h b) + v168 (ix2 h 256) = pre X0 X1 p v168 v175 1 b h := by
  rw [← pay39_of hX0 hX1 hp v168 v175 h b 1]
  simp [num]

/-- The critic's bias, unfolded from its table. -/
abbrev bias (v188 : Vec Ideal S32x18 .f32) (i : Fin 576) : EReal := v188 (ix2 ⟨i.val % 32, by omega⟩ ⟨i.val / 32, by omega⟩)

/-- The bias at an action's entry. -/
theorem bias_cell (v188 : Vec Ideal S32x18 .f32) (a : Fin 18) (q : Fin 32) : bias v188 (cell a q) = v188 (ix2 q a) := by
  have h := q.isLt
  have h1 : (⟨(cell a q).val % 32, by omega⟩ : Fin 32) = q := Fin.ext (by unfold cell; simp only; omega)
  have h2 : (⟨(cell a q).val / 32, by omega⟩ : Fin 18) = a := Fin.ext (by unfold cell; simp only; omega)
  unfold bias
  rw [h1, h2]

/-- The value of agent `a` at a block's sample. -/
abbrev val (X0 X1 : Fin 4096 → Fin 128 → EReal) (p : Fin 2 → Fin 4096 → Fin 18) (v168 : Vec Ideal S64x259 .f32) (v175 : Vec Ideal S64x1 .f32)
    (v184 : Vec Ideal S576x64 .f32) (v188 : Vec Ideal S32x18 .f32) (a : Fin 2) (b : Fin 4096) (q : Fin 32) : EReal :=
  aff (fun h => Ideal.tanh (pre X0 X1 p v168 v175 a b h)) (fun h i => v184 (ix2 i h)) (bias v188) (cell (p a b) q)

variable {v186 : Vec Ideal S576x18 .f32} {v187 : Vec Ideal S32x576 .f32} (v188 : Vec Ideal S32x18 .f32)
  (hE : ∀ i k, v186 (ix2 i k) = if i.val / 32 = k.val then 1 else 0) (hR : ∀ q i, v187 (ix2 q i) = if i.val % 32 = q.val then 1 else 0)

include hE hR in
/-- The two tables pick an action's entries out of the critic's products. -/
theorem picked {o : Fin 18 → EReal} {a : Fin 18} (ho : ∀ k, o k = if k = a then 1 else 0) (q : Fin 32) (x : Fin 64 → EReal) :
    ∑ i, v187 (ix2 q i) * ((∑ k, v186 (ix2 i k) * o k) * ∑ h, v184 (ix2 i h) * x h) + ∑ k, v188 (ix2 q k) * o k
      = aff x (fun h i => v184 (ix2 i h)) (bias v188) (cell a q) := by
  simp only [ho]
  rw [sum_cell a q (fun i => v187 (ix2 q i)) (fun i k => v186 (ix2 i k)) (hR q) hE (fun i => ∑ h, v184 (ix2 i h) * x h)]
  have h : ∑ k, v188 (ix2 q k) * (if k = a then (1 : EReal) else 0) = bias v188 (cell a q) := by
    rw [bias_cell, ← sum_pick a fun k => v188 (ix2 q k)]
    exact Finset.sum_congr rfl fun k _ => mul_comm _ _
  rw [h]
  exact aff_swap x (fun h i => v184 (ix2 i h)) (bias v188) (cell a q)

include hX0 hX1 hp hE hR in
/-- Agent 0's value. -/
theorem pay42_of {v47 : FVec Ideal S18x4096 .f32} (ho : ∀ k b, v47 (ix2 k b) = if k = p 0 b then 1 else 0) (q : Fin 32) (b : Fin 4096) :
    k0_pay42 v1 v3 v47 v164 v168 v175 v184 v186 v187 v188 (ix3 0 q b) = val X0 X1 p v168 v175 v184 v188 0 b q := by
  pointwise [k0_pay42]
  simp only [pay40_eq, pay41_eq, pay39_zero hX0 hX1 hp]
  exact picked v184 v188 hE hR (fun k => ho k b) q _

include hX0 hX1 hp hE hR in
/-- Agent 1's value. -/
theorem pay1_of {v112 : FVec Ideal S18x4096 .f32} (ho : ∀ k b, v112 (ix2 k b) = if k = p 1 b then 1 else 0) (q : Fin 32) (b : Fin 4096) :
    k0_pay1 v112 v187 (k0_pay41 v188) (k0_pay43 v1 v3 v164 v168 v175 v184) (k0_pay44 v112 v186) (ix3 0 q b)
      = val X0 X1 p v168 v175 v184 v188 1 b q := by
  pointwise [k0_pay1, k0_pay43, k0_pay44]
  simp only [pay38_eq, pay40_eq, pay41_eq, pay39_one hX0 hX1 hp]
  exact picked v184 v188 hE hR (fun k => ho k b) q _

end

end Cert.Proof.Kern
-- ==== Proof.KBlock.lean ====
module

public import proofs.«01_k».proof.Proof.Pay2
public import Idealize.ShloMosaic.Lib.Pipeline.Value
public import Idealize.ShloMosaic.Lib.Pipeline.ValueKit

@[expose] public section

set_option maxRecDepth 16384

noncomputable section

namespace Cert.Proof.Kern

open Cert.KernelIdeal Cert.KernelIdeal.Gen Idealize.ShloMosaic Idealize.ShloMosaic.TcCoe Idealize.SL.Sem Cert.Proof.Spec
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section

variable (x0 : Vec Ideal S4096x2x128 .f32) (x1 : Vec Ideal S18x4096 .f32) (x2 : Vec Ideal S18x4096 .f32) (x3 : Vec Ideal S64x128 .f32) (x4 : Vec Ideal S64x1 .f32) (x5 : Vec Ideal S18x64 .f32) (x6 : Vec Ideal S18x1 .f32) (x7 : Vec Ideal S18x64 .f32) (x8 : Vec Ideal S18x1 .f32) (x9 : Vec Ideal S64x259 .f32) (x10 : Vec Ideal S64x1 .f32) (x11 : Vec Ideal S576x64 .f32) (x12 : Vec Ideal S32x18 .f32) (x13 : Vec Ideal S576x18 .f32) (x14 : Vec Ideal S32x576 .f32)

/-- A block's inputs, entry by entry. -/
def binp : Inp 4096 where
  x b a k := x0 (ix3 b a k)
  W1 k h := x3 (ix2 h k)
  b1 h := x4 (ix2 h 0)
  Wa h j := x5 (ix2 j h)
  ba j := x6 (ix2 j 0)
  Wo h j := x7 (ix2 j h)
  bo j := x8 (ix2 j 0)
  W3 k h := x9 (ix2 h k)
  b3 h := x10 (ix2 h 0)
  W4 h i := x11 (ix2 i h)
  b4 := bias x12
  u a j b := if a = 0 then x1 (ix2 j b) else x2 (ix2 j b)

/-- The rows' numbers. -/
theorem rows (j : Fin 18) (b : Fin 4096) : iota Kind.tc S18x4096 32 [0] iota_S18x4096_d0_w32 (ix2 j b) = BitVec.ofNat 32 j.val := by
  pointwise []

/-- Agent 0's observations of the block. -/
abbrev part0 : Vec Ideal S4096x1x128 .f32 := View.ld x0 (Rect.unit ![0, 0, 0] ![4096, 1, 128] inb_S4096x2x128_S4096x1x128_0_0_0)

/-- Agent 1's observations of the block. -/
abbrev part1 : Vec Ideal S4096x1x128 .f32 := View.ld x0 (Rect.unit ![0, 1, 0] ![4096, 1, 128] inb_S4096x2x128_S4096x1x128_0_1_0)

theorem part0_of (b : Fin 4096) (k : Fin 128) : part0 x0 (ix3 b 0 k) = x0 (ix3 b 0 k) := by
  refine View.ld_unit_apply_of x0 _ _ _ _ _ fun a => ?_
  fin_cases a <;> simp [ix3]

theorem part1_of (b : Fin 4096) (k : Fin 128) : part1 x0 (ix3 b 0 k) = x0 (ix3 b 1 k) := by
  refine View.ld_unit_apply_of x0 _ _ _ _ _ fun a => ?_
  fin_cases a <;> simp [ix3]

/-- The block's actions. -/
theorem blk_act (a : Fin 2) (b : Fin 4096) :
    k0_pay36 (k0_pay19 (iota Kind.tc S18x4096 32 [0] iota_S18x4096_d0_w32) (k0_pay16 (part0 x0) x3 x4 x5 x6) (k0_pay17 x1) k0_pay18)
      (k0_pay27 (k0_pay11 (part1 x0) x3 x4) (k0_pay12 x5) (k0_pay13 x6) (iota Kind.tc S18x4096 32 [0] iota_S18x4096_d0_w32) x2) (ix2 a b)
      = BitVec.ofNat 32 (act (binp x0 x1 x2 x3 x4 x5 x6 x7 x8 x9 x10 x11 x12) a b).val :=
  pay36_of (p := act (binp x0 x1 x2 x3 x4 x5 x6 x7 x8 x9 x10 x11 x12)) (fun b => pay19_of rows (pay16_of (part0_of x0) x3 x4 x5 x6) x1 b)
    (fun b => pay27_of rows (pay11_of (part1_of x0) x3 x4) x5 x6 x2 b) a b

/-- The log-probabilities of the block's actions. -/
theorem blk_alp (a : Fin 2) (b : Fin 4096) :
    k0_pay37 (k0_pay22 (iota Kind.tc S18x4096 32 [0] iota_S18x4096_d0_w32) (k0_pay16 (part0 x0) x3 x4 x5 x6) (k0_pay17 x1) k0_pay18)
      (k0_pay30 (k0_pay11 (part1 x0) x3 x4) (k0_pay12 x5) (k0_pay13 x6) (iota Kind.tc S18x4096 32 [0] iota_S18x4096_d0_w32) x2) (ix2 a b)
      = alp (binp x0 x1 x2 x3 x4 x5 x6 x7 x8 x9 x10 x11 x12) a b :=
  pay37_of (p := alp (binp x0 x1 x2 x3 x4 x5 x6 x7 x8 x9 x10 x11 x12)) (fun b => pay22_of rows (pay16_of (part0_of x0) x3 x4 x5 x6) x1 b)
    (fun b => pay30_of rows (pay11_of (part1_of x0) x3 x4) x5 x6 x2 b) a b

/-- The block's sum of negated entropies of both agents. -/
def blkEnt (z : Fin 2 → Fin 4096 → Fin 18 → EReal) : EReal := ((-ents (z 0) : ℝ) : EReal) + ((-ents (z 1) : ℝ) : EReal)

theorem blk_ent : @Eq EReal (k0_pay32 (k0_pay23 (k0_pay16 (part0 x0) x3 x4 x5 x6)) (k0_pay31 (k0_pay11 (part1 x0) x3 x4) (k0_pay12 x5) (k0_pay13 x6)))
    (blkEnt (logits (binp x0 x1 x2 x3 x4 x5 x6 x7 x8 x9 x10 x11 x12))) :=
  (pay32_of (pay11_of (part1_of x0) x3 x4) x5 x6 _).trans
    (congrArg (· + _) (pay23_of (pay16_of (part0_of x0) x3 x4 x5 x6)))

theorem blk_oent : @Eq EReal (k0_pay34 (k0_pay11 (part1 x0) x3 x4) (k0_pay14 x7) (k0_pay15 x8)
      (k0_pay25 (k0_pay24 (k0_pay10 (part0 x0) x3 x4) (k0_pay14 x7) (k0_pay15 x8))))
    (blkEnt (opps (binp x0 x1 x2 x3 x4 x5 x6 x7 x8 x9 x10 x11 x12))) :=
  (pay34_of (pay11_of (part1_of x0) x3 x4) x7 x8 _).trans
    (congrArg (· + _) (pay25_of (pay24_of (pay10_of (part0_of x0) x3 x4) x7 x8)))

variable (hE : ∀ i k, x13 (ix2 i k) = if i.val / 32 = k.val then 1 else 0) (hR : ∀ q i, x14 (ix2 q i) = if i.val % 32 = q.val then 1 else 0)

include hE hR in
/-- Agent 0's values. -/
theorem blk_val0 (q : Fin 32) (b : Fin 4096) :
    k0_pay42 (k0_pay6 (part0 x0)) (k0_pay7 (part1 x0))
      (k0_pay20 (iota Kind.tc S18x4096 32 [0] iota_S18x4096_d0_w32) (k0_pay16 (part0 x0) x3 x4 x5 x6) (k0_pay17 x1) k0_pay18)
      (k0_pay36 (k0_pay19 (iota Kind.tc S18x4096 32 [0] iota_S18x4096_d0_w32) (k0_pay16 (part0 x0) x3 x4 x5 x6) (k0_pay17 x1) k0_pay18)
        (k0_pay27 (k0_pay11 (part1 x0) x3 x4) (k0_pay12 x5) (k0_pay13 x6) (iota Kind.tc S18x4096 32 [0] iota_S18x4096_d0_w32) x2))
      x9 x10 x11 x13 x14 x12 (ix3 0 q b)
      = value (binp x0 x1 x2 x3 x4 x5 x6 x7 x8 x9 x10 x11 x12) 0 b q :=
  pay42_of (pay6_of (part0_of x0)) (pay7_of (part1_of x0)) (blk_act x0 x1 x2 x3 x4 x5 x6 x7 x8 x9 x10 x11 x12) x9 x10 x11 x12 hE hR
    (fun k b => pay20_of rows (pay16_of (part0_of x0) x3 x4 x5 x6) x1 k b) q b

include hE hR in
/-- Agent 1's values. -/
theorem blk_val1 (q : Fin 32) (b : Fin 4096) :
    k0_pay1 (k0_pay28 (k0_pay11 (part1 x0) x3 x4) (k0_pay12 x5) (k0_pay13 x6) (iota Kind.tc S18x4096 32 [0] iota_S18x4096_d0_w32) x2)
      x14 (k0_pay41 x12)
      (k0_pay43 (k0_pay6 (part0 x0)) (k0_pay7 (part1 x0))
        (k0_pay36 (k0_pay19 (iota Kind.tc S18x4096 32 [0] iota_S18x4096_d0_w32) (k0_pay16 (part0 x0) x3 x4 x5 x6) (k0_pay17 x1) k0_pay18)
          (k0_pay27 (k0_pay11 (part1 x0) x3 x4) (k0_pay12 x5) (k0_pay13 x6) (iota Kind.tc S18x4096 32 [0] iota_S18x4096_d0_w32) x2))
        x9 x10 x11)
      (k0_pay44 (k0_pay28 (k0_pay11 (part1 x0) x3 x4) (k0_pay12 x5) (k0_pay13 x6) (iota Kind.tc S18x4096 32 [0] iota_S18x4096_d0_w32) x2) x13)
      (ix3 0 q b)
      = value (binp x0 x1 x2 x3 x4 x5 x6 x7 x8 x9 x10 x11 x12) 1 b q :=
  pay1_of (pay6_of (part0_of x0)) (pay7_of (part1_of x0)) (blk_act x0 x1 x2 x3 x4 x5 x6 x7 x8 x9 x10 x11 x12) x9 x10 x11 x12 hE hR
    (fun k b => pay28_of rows (pay11_of (part1_of x0) x3 x4) x5 x6 x2 k b) q b

end

end Cert.Proof.Kern
-- ==== Proof.KOut.lean ====
module

public import proofs.«01_k».proof.Proof.KBlock

@[expose] public section

set_option maxRecDepth 16384

noncomputable section

namespace Cert.Proof.Kern

open Cert.KernelIdeal Cert.KernelIdeal.Gen Idealize.ShloMosaic Idealize.ShloMosaic.TcCoe Idealize.SL.Sem Cert.Proof.Spec
open Idealize.ShloMosaic.Pipeline (Dat)

/-- The rows of agent `1` in the block of the values. -/
abbrev rect1 : Rect S2x32x4096 := Rect.unit ![1, 0, 0] ![1, 32, 4096] inb_S2x32x4096_S1x32x4096_1_0_0
/-- The rows of agent `0`. -/
abbrev rect0 : Rect S2x32x4096 := Rect.unit ![0, 0, 0] ![1, 32, 4096] inb_S2x32x4096_S1x32x4096_0_0_0

theorem emb1 (z : Fin 1) (q : Fin 32) (b : Fin 4096) : rect1.emb (ix3 z q b) = ix3 (1 : Fin 2) q b := by
  funext a; apply Fin.ext
  match a with
  | ⟨0, _⟩ => show 1 + 1 * z.val = 1; omega
  | ⟨1, _⟩ => show 0 + 1 * q.val = q.val; omega
  | ⟨2, _⟩ => show 0 + 1 * b.val = b.val; omega

theorem emb0 (z : Fin 1) (q : Fin 32) (b : Fin 4096) : rect0.emb (ix3 z q b) = ix3 (0 : Fin 2) q b := by
  funext a; apply Fin.ext
  match a with
  | ⟨0, _⟩ => show 0 + 1 * z.val = 0; omega
  | ⟨1, _⟩ => show 0 + 1 * q.val = q.val; omega
  | ⟨2, _⟩ => show 0 + 1 * b.val = b.val; omega

theorem in1 (q : Fin 32) (b : Fin 4096) : ix3 (1 : Fin 2) q b ∈ rect1.set := by
  have h := rect1.idx_mem (ix3 (0 : Fin 1) q b); rwa [show rect1.idx (ix3 (0 : Fin 1) q b) = _ from emb1 0 q b] at h

theorem in0 (q : Fin 32) (b : Fin 4096) : ix3 (0 : Fin 2) q b ∈ rect0.set := by
  have h := rect0.idx_mem (ix3 (0 : Fin 1) q b); rwa [show rect0.idx (ix3 (0 : Fin 1) q b) = _ from emb0 0 q b] at h

theorem idx_eq (k : S1x32x4096.Idx) : ∃ (z : Fin 1) (q : Fin 32) (b : Fin 4096), k = ix3 z q b :=
  ⟨k 0, k 1, k 2, by funext a; fin_cases a <;> rfl⟩

/-- A piece known entry by entry agrees with the function it is a piece of. -/
theorem piece1 (v : S1x32x4096.Idx → EReal) (f : Fin 2 → Fin 4096 → Fin 32 → EReal) (h : ∀ q b, v (ix3 0 q b) = f 1 b q)
    (k : S1x32x4096.Idx) : v k = f (rect1.emb k 0) (rect1.emb k 2) (rect1.emb k 1) := by
  obtain ⟨z, q, b, rfl⟩ := idx_eq k
  rw [emb1, Subsingleton.elim z 0]
  exact h q b

theorem piece0 (v : S1x32x4096.Idx → EReal) (f : Fin 2 → Fin 4096 → Fin 32 → EReal) (h : ∀ q b, v (ix3 0 q b) = f 0 b q)
    (k : S1x32x4096.Idx) : v k = f (rect0.emb k 0) (rect0.emb k 2) (rect0.emb k 1) := by
  obtain ⟨z, q, b, rfl⟩ := idx_eq k
  rw [emb0, Subsingleton.elim z 0]
  exact h q b

variable (c : Dev nD) (i : grid0.Coords) (arg1 : Memref sig .tc .vmem S4096x2x128 .f32) (harg1 : arg1.IsWhole) (arg2 : Memref sig .tc .vmem S18x4096 .f32) (harg2 : arg2.IsWhole) (arg3 : Memref sig .tc .vmem S18x4096 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S18x64 .f32) (harg6 : arg6.IsWhole) (arg7 : Memref sig .tc .vmem S18x1 .f32) (harg7 : arg7.IsWhole) (arg8 : Memref sig .tc .vmem S18x64 .f32) (harg8 : arg8.IsWhole) (arg9 : Memref sig .tc .vmem S18x1 .f32) (harg9 : arg9.IsWhole) (arg10 : Memref sig .tc .vmem S64x259 .f32) (harg10 : arg10.IsWhole) (arg11 : Memref sig .tc .vmem S64x1 .f32) (harg11 : arg11.IsWhole) (arg12 : Memref sig .tc .vmem S576x64 .f32) (harg12 : arg12.IsWhole) (arg13 : Memref sig .tc .vmem S32x18 .f32) (harg13 : arg13.IsWhole) (arg14 : Memref sig .tc .vmem S576x18 .f32) (harg14 : arg14.IsWhole) (arg15 : Memref sig .tc .vmem S32x576 .f32) (harg15 : arg15.IsWhole) (arg16 : Memref sig .tc .vmem S2x32x4096 .f32) (harg16 : arg16.IsWhole) (arg17 : Memref sig .tc .vmem S2x4096 .i32) (harg17 : arg17.IsWhole) (arg18 : Memref sig .tc .vmem S2x4096 .f32) (harg18 : arg18.IsWhole) (arg19 : Memref sig .tc .vmem S18x1x4096 .f32) (harg19 : arg19.IsWhole) (arg20 : Memref sig .tc .vmem S1x1 .f32) (harg20 : arg20.IsWhole) (arg21 : Memref sig .tc .vmem S1x1 .f32) (harg21 : arg21.IsWhole)
  (x0 : Vec Ideal S4096x2x128 .f32) (x1 : Vec Ideal S18x4096 .f32) (x2 : Vec Ideal S18x4096 .f32) (x3 : Vec Ideal S64x128 .f32) (x4 : Vec Ideal S64x1 .f32) (x5 : Vec Ideal S18x64 .f32) (x6 : Vec Ideal S18x1 .f32) (x7 : Vec Ideal S18x64 .f32) (x8 : Vec Ideal S18x1 .f32) (x9 : Vec Ideal S64x259 .f32) (x10 : Vec Ideal S64x1 .f32) (x11 : Vec Ideal S576x64 .f32) (x12 : Vec Ideal S32x18 .f32) (x13 : Vec Ideal S576x18 .f32) (x14 : Vec Ideal S32x576 .f32) (xo19 xo20 : Vec Ideal S1x1 .f32)

set_option maxHeartbeats 1000000 in
/-- The first point leaves the values of its block. -/
theorem outA15 (hc0 : cond0_0 i) (hE : ∀ i k, x13 (ix2 i k) = if i.val / 32 = k.val then 1 else 0) (hR : ∀ q i, x14 (ix2 q i) = if i.val % 32 = q.val then 1 else 0) (a : Fin 2) (q : Fin 32) (b : Fin 4096) : @Eq (EReal) ((out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14) (ix3 a q b)) (value (binp x0 x1 x2 x3 x4 x5 x6 x7 x8 x9 x10 x11 x12) a b q) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (View.canon_apply_of_pieces (fun k => value (binp x0 x1 x2 x3 x4 x5 x6 x7 x8 x9 x10 x11 x12) (k 0) (k 2) (k 1)) _ ?_ _ ?_).trans rfl
  · intro p hp
    simp only [List.mem_cons, List.mem_nil_iff, or_false] at hp
    rcases hp with rfl | rfl
    · intro k
      exact piece1 _ _ (fun r n => blk_val1 x0 x1 x2 x3 x4 x5 x6 x7 x8 x9 x10 x11 x12 x13 x14 hE hR r n) k
    · intro k
      exact piece0 _ _ (fun r n => blk_val0 x0 x1 x2 x3 x4 x5 x6 x7 x8 x9 x10 x11 x12 x13 x14 hE hR r n) k
  · fin_cases a
    · exact ⟨_, List.mem_cons_of_mem _ (List.mem_cons_self ..), in0 q b⟩
    · exact ⟨_, List.mem_cons_self .., in1 q b⟩

set_option maxHeartbeats 1000000 in
/-- The first point leaves the actions of its block. -/
theorem outA16 (hc0 : cond0_0 i) (a : Fin 2) (b : Fin 4096) : @Eq (BitVec 32) ((out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14) (ix2 a b)) (BitVec.ofNat 32 (act (binp x0 x1 x2 x3 x4 x5 x6 x7 x8 x9 x10 x11 x12) a b).val) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (congrFun (View.canon_unit_zero (S := S2x4096) hz2 _ _) _).trans ?_
  exact blk_act x0 x1 x2 x3 x4 x5 x6 x7 x8 x9 x10 x11 x12 a b

set_option maxHeartbeats 1000000 in
/-- The first point leaves the log-probabilities of its block. -/
theorem outA17 (hc0 : cond0_0 i) (a : Fin 2) (b : Fin 4096) : @Eq (EReal) ((out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14) (ix2 a b)) (alp (binp x0 x1 x2 x3 x4 x5 x6 x7 x8 x9 x10 x11 x12) a b) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (congrFun (View.canon_unit_zero (S := S2x4096) hz2 _ _) _).trans ?_
  exact blk_alp x0 x1 x2 x3 x4 x5 x6 x7 x8 x9 x10 x11 x12 a b

set_option maxHeartbeats 1000000 in
/-- The first point leaves the opponent head's probabilities of its block. -/
theorem outA18 (hc0 : cond0_0 i) (j : Fin 18) (b : Fin 4096) : @Eq (EReal) ((out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14) (ix3 j 0 b)) (soft (opps (binp x0 x1 x2 x3 x4 x5 x6 x7 x8 x9 x10 x11 x12) 1 b) j) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (congrFun (View.canon_unit_zero (S := S18x1x4096) hz3 _ _) _).trans ?_
  exact pay35_of (pay11_of (part1_of x0) x3 x4) x7 x8 j b

set_option maxHeartbeats 1000000 in
/-- The first point leaves the sum of the negated entropies of its block added to zero. -/
theorem outA19 (hc0 : cond0_0 i)  : @Eq (EReal) ((out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14) (ix2 0 0)) (blkEnt (logits (binp x0 x1 x2 x3 x4 x5 x6 x7 x8 x9 x10 x11 x12))) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (congrFun (View.canon_cons_unit_zero (S := S1x1) hz2 _ _ _) _).trans ?_
  rw [View.readCov_unit_zero (S := S1x1) _ hz2]
  pointwise [k0_pay4, k0_pay2]
  exact (blk_ent x0 x1 x2 x3 x4 x5 x6 x7 x8 x9 x10 x11 x12)

set_option maxHeartbeats 1000000 in
/-- The first point leaves the sum of the opponent head's negated entropies of its block added to zero. -/
theorem outA20 (hc0 : cond0_0 i)  : @Eq (EReal) ((out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14) (ix2 0 0)) (blkEnt (opps (binp x0 x1 x2 x3 x4 x5 x6 x7 x8 x9 x10 x11 x12))) := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (congrFun (View.canon_cons_unit_zero (S := S1x1) hz2 _ _ _) _).trans ?_
  rw [View.readCov_unit_zero (S := S1x1) _ hz2]
  pointwise [k0_pay5, k0_pay3]
  exact (blk_oent x0 x1 x2 x3 x4 x5 x6 x7 x8 x9 x10 x11 x12)

set_option maxHeartbeats 1000000 in
/-- A later point leaves the values of its block. -/
theorem outB15 (hc0 : ¬cond0_0 i) (hE : ∀ i k, x13 (ix2 i k) = if i.val / 32 = k.val then 1 else 0) (hR : ∀ q i, x14 (ix2 q i) = if i.val % 32 = q.val then 1 else 0) (a : Fin 2) (q : Fin 32) (b : Fin 4096) : @Eq (EReal) ((out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20) (ix3 a q b)) (value (binp x0 x1 x2 x3 x4 x5 x6 x7 x8 x9 x10 x11 x12) a b q) := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (View.canon_apply_of_pieces (fun k => value (binp x0 x1 x2 x3 x4 x5 x6 x7 x8 x9 x10 x11 x12) (k 0) (k 2) (k 1)) _ ?_ _ ?_).trans rfl
  · intro p hp
    simp only [List.mem_cons, List.mem_nil_iff, or_false] at hp
    rcases hp with rfl | rfl
    · intro k
      exact piece1 _ _ (fun r n => blk_val1 x0 x1 x2 x3 x4 x5 x6 x7 x8 x9 x10 x11 x12 x13 x14 hE hR r n) k
    · intro k
      exact piece0 _ _ (fun r n => blk_val0 x0 x1 x2 x3 x4 x5 x6 x7 x8 x9 x10 x11 x12 x13 x14 hE hR r n) k
  · fin_cases a
    · exact ⟨_, List.mem_cons_of_mem _ (List.mem_cons_self ..), in0 q b⟩
    · exact ⟨_, List.mem_cons_self .., in1 q b⟩

set_option maxHeartbeats 1000000 in
/-- A later point leaves the actions of its block. -/
theorem outB16 (hc0 : ¬cond0_0 i) (a : Fin 2) (b : Fin 4096) : @Eq (BitVec 32) ((out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20) (ix2 a b)) (BitVec.ofNat 32 (act (binp x0 x1 x2 x3 x4 x5 x6 x7 x8 x9 x10 x11 x12) a b).val) := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (congrFun (View.canon_unit_zero (S := S2x4096) hz2 _ _) _).trans ?_
  exact blk_act x0 x1 x2 x3 x4 x5 x6 x7 x8 x9 x10 x11 x12 a b

set_option maxHeartbeats 1000000 in
/-- A later point leaves the log-probabilities of its block. -/
theorem outB17 (hc0 : ¬cond0_0 i) (a : Fin 2) (b : Fin 4096) : @Eq (EReal) ((out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20) (ix2 a b)) (alp (binp x0 x1 x2 x3 x4 x5 x6 x7 x8 x9 x10 x11 x12) a b) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (congrFun (View.canon_unit_zero (S := S2x4096) hz2 _ _) _).trans ?_
  exact blk_alp x0 x1 x2 x3 x4 x5 x6 x7 x8 x9 x10 x11 x12 a b

set_option maxHeartbeats 1000000 in
/-- A later point leaves the opponent head's probabilities of its block. -/
theorem outB18 (hc0 : ¬cond0_0 i) (j : Fin 18) (b : Fin 4096) : @Eq (EReal) ((out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20) (ix3 j 0 b)) (soft (opps (binp x0 x1 x2 x3 x4 x5 x6 x7 x8 x9 x10 x11 x12) 1 b) j) := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2]
  refine (congrFun (View.canon_unit_zero (S := S18x1x4096) hz3 _ _) _).trans ?_
  exact pay35_of (pay11_of (part1_of x0) x3 x4) x7 x8 j b

set_option maxHeartbeats 1000000 in
/-- A later point leaves the sum of the negated entropies of its block added to what the point before left. -/
theorem outB19 (hc0 : ¬cond0_0 i)  : @Eq (EReal) ((out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20) (ix2 0 0)) (xo19 (ix2 0 0) + blkEnt (logits (binp x0 x1 x2 x3 x4 x5 x6 x7 x8 x9 x10 x11 x12))) := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2, harg20.read_unread]
  refine (congrFun (View.canon_cons_unit_zero (S := S1x1) hz2 _ _ _) _).trans ?_
  rw [View.ld_unit_zero (S := S1x1) hz2]
  pointwise [k0_pay4]
  exact congrArg (_ + ·) (blk_ent x0 x1 x2 x3 x4 x5 x6 x7 x8 x9 x10 x11 x12)

set_option maxHeartbeats 1000000 in
/-- A later point leaves the sum of the opponent head's negated entropies of its block added to what the point before left. -/
theorem outB20 (hc0 : ¬cond0_0 i)  : @Eq (EReal) ((out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20) (ix2 0 0)) (xo20 (ix2 0 0) + blkEnt (opps (binp x0 x1 x2 x3 x4 x5 x6 x7 x8 x9 x10 x11 x12))) := by
  unfold out0_B_20
  rw [View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xo19 xo20)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S18x4096) hz2, View.ld_unit_zero (S := S64x128) hz2, View.ld_unit_zero (S := S64x1) hz2, View.ld_unit_zero (S := S18x64) hz2, View.ld_unit_zero (S := S18x1) hz2, View.ld_unit_zero (S := S64x259) hz2, View.ld_unit_zero (S := S576x64) hz2, View.ld_unit_zero (S := S32x18) hz2, View.ld_unit_zero (S := S576x18) hz2, View.ld_unit_zero (S := S32x576) hz2, harg21.read_unread]
  refine (congrFun (View.canon_cons_unit_zero (S := S1x1) hz2 _ _ _) _).trans ?_
  rw [View.ld_unit_zero (S := S1x1) hz2]
  pointwise [k0_pay5]
  exact congrArg (_ + ·) (blk_oent x0 x1 x2 x3 x4 x5 x6 x7 x8 x9 x10 x11 x12)

end Cert.Proof.Kern
-- ==== Proof.KIn.lean ====
module

public import proofs.«01_k».proof.Proof.KOut
public import Idealize.ShloMosaic.Lib.StableHlo.ReadAt
public import Idealize.ShloMosaic.Lib.Pointwise

@[expose] public section

set_option maxRecDepth 16384

noncomputable section

namespace Cert.Proof.Kern

open Cert.KernelIdeal Cert.KernelIdeal.Gen Idealize.ShloMosaic Idealize.ShloMosaic.TcCoe Idealize.SL.Sem Cert.Proof.Spec

variable (m : (ℓ : Loc nD τ sig) → Buf (Elt Ideal) ℓ) (c : Dev nD) (t : Fin cfg0.N)

/-- The place of sample `b` of block `t` among all the samples. -/
def place (b : Fin 4096) : Fin 16384 := ⟨t.val * 4096 + b.val, by have h : t.val < 4 := N_0 ▸ t.isLt; omega⟩

/-- Where each window's block starts. -/
theorem idx : (win0_0.index t 0 = t.val ∧ win0_0.index t 1 = 0 ∧ win0_0.index t 2 = 0)
    ∧ (win0_1.index t 0 = 0 ∧ win0_1.index t 1 = t.val) ∧ (win0_2.index t 0 = 0 ∧ win0_2.index t 1 = t.val)
    ∧ (win0_15.index t 0 = 0 ∧ win0_15.index t 1 = 0 ∧ win0_15.index t 2 = t.val)
    ∧ (win0_16.index t 0 = 0 ∧ win0_16.index t 1 = t.val) ∧ (win0_17.index t 0 = 0 ∧ win0_17.index t 1 = t.val)
    ∧ (win0_18.index t 0 = 0 ∧ win0_18.index t 1 = 0 ∧ win0_18.index t 2 = t.val) := by
  rcases fin_N0 t with rfl | rfl | rfl | rfl <;> decide

/-- The block of the observations. -/
theorem blk_in0 (b : Fin 4096) (a : Fin 2) (k : Fin 128) : (iblk m c 0 t : Vec Ideal S4096x2x128 .f32) (ix3 b a k)
    = (m ((c : Thread nD τ).loc main_arg0) : Vec Ideal S16384x2x128 .f32) (ix3 (place t b) a k) := by
  obtain ⟨⟨h0, h1, h2⟩, -⟩ := idx t
  unfold iblk
  rw [View.read_apply]
  show V m c main_arg0 _ = _
  rw [V_main_arg0]
  refine congrArg _ ?_
  funext x; apply Fin.ext
  match x with
  | ⟨0, _⟩ => show win0_0.index t 0 * 4096 + 1 * b.val = t.val * 4096 + b.val; rw [h0]; omega
  | ⟨1, _⟩ => show win0_0.index t 1 * 2 + 1 * a.val = a.val; rw [h1]; omega
  | ⟨2, _⟩ => show win0_0.index t 2 * 128 + 1 * k.val = k.val; rw [h2]; omega

/-- The block of the draws of agent 0. -/
theorem blk_in1 (j : Fin 18) (b : Fin 4096) : (iblk m c 1 t : Vec Ideal S18x4096 .f32) (ix2 j b)
    = (m ((c : Thread nD τ).loc main_arg13) : Vec Ideal S18x16384 .f32) (ix2 j (place t b)) := by
  obtain ⟨-, ⟨h0, h1⟩, -⟩ := idx t
  unfold iblk
  rw [View.read_apply]
  show V m c main_arg13 _ = _
  rw [V_main_arg13]
  refine congrArg _ ?_
  funext x; apply Fin.ext
  match x with
  | ⟨0, _⟩ => show win0_1.index t 0 * 18 + 1 * j.val = j.val; rw [h0]; omega
  | ⟨1, _⟩ => show win0_1.index t 1 * 4096 + 1 * b.val = t.val * 4096 + b.val; rw [h1]; omega

/-- The block of the draws of agent 1. -/
theorem blk_in2 (j : Fin 18) (b : Fin 4096) : (iblk m c 2 t : Vec Ideal S18x4096 .f32) (ix2 j b)
    = (m ((c : Thread nD τ).loc main_arg14) : Vec Ideal S18x16384 .f32) (ix2 j (place t b)) := by
  obtain ⟨-, -, ⟨h0, h1⟩, -⟩ := idx t
  unfold iblk
  rw [View.read_apply]
  show V m c main_arg14 _ = _
  rw [V_main_arg14]
  refine congrArg _ ?_
  funext x; apply Fin.ext
  match x with
  | ⟨0, _⟩ => show win0_2.index t 0 * 18 + 1 * j.val = j.val; rw [h0]; omega
  | ⟨1, _⟩ => show win0_2.index t 1 * 4096 + 1 * b.val = t.val * 4096 + b.val; rw [h1]; omega

theorem whole3 : (iblk m c 3 t : Vec Ideal S64x128 .f32) = V m c main_call0_v0 := by
  funext y
  have h : ∀ a, win0_3.index t a = 0 := by rcases fin_N0 t with rfl | rfl | rfl | rfl <;> decide
  unfold iblk
  rw [View.read_apply]
  refine congrArg (V m c main_call0_v0) ?_
  funext x; apply Fin.ext
  match x with
  | ⟨0, _⟩ => show win0_3.index t 0 * 64 + 1 * (y 0).val = (y 0).val; rw [h]; omega
  | ⟨1, _⟩ => show win0_3.index t 1 * 128 + 1 * (y 1).val = (y 1).val; rw [h]; omega

theorem whole4 : (iblk m c 4 t : Vec Ideal S64x1 .f32) = V m c main_call0_v1 := by
  funext y
  have h : ∀ a, win0_4.index t a = 0 := by rcases fin_N0 t with rfl | rfl | rfl | rfl <;> decide
  unfold iblk
  rw [View.read_apply]
  refine congrArg (V m c main_call0_v1) ?_
  funext x; apply Fin.ext
  match x with
  | ⟨0, _⟩ => show win0_4.index t 0 * 64 + 1 * (y 0).val = (y 0).val; rw [h]; omega
  | ⟨1, _⟩ => show win0_4.index t 1 * 1 + 1 * (y 1).val = (y 1).val; rw [h]; omega

theorem whole5 : (iblk m c 5 t : Vec Ideal S18x64 .f32) = V m c main_call0_v2 := by
  funext y
  have h : ∀ a, win0_5.index t a = 0 := by rcases fin_N0 t with rfl | rfl | rfl | rfl <;> decide
  unfold iblk
  rw [View.read_apply]
  refine congrArg (V m c main_call0_v2) ?_
  funext x; apply Fin.ext
  match x with
  | ⟨0, _⟩ => show win0_5.index t 0 * 18 + 1 * (y 0).val = (y 0).val; rw [h]; omega
  | ⟨1, _⟩ => show win0_5.index t 1 * 64 + 1 * (y 1).val = (y 1).val; rw [h]; omega

theorem whole6 : (iblk m c 6 t : Vec Ideal S18x1 .f32) = V m c main_call0_v3 := by
  funext y
  have h : ∀ a, win0_6.index t a = 0 := by rcases fin_N0 t with rfl | rfl | rfl | rfl <;> decide
  unfold iblk
  rw [View.read_apply]
  refine congrArg (V m c main_call0_v3) ?_
  funext x; apply Fin.ext
  match x with
  | ⟨0, _⟩ => show win0_6.index t 0 * 18 + 1 * (y 0).val = (y 0).val; rw [h]; omega
  | ⟨1, _⟩ => show win0_6.index t 1 * 1 + 1 * (y 1).val = (y 1).val; rw [h]; omega

theorem whole7 : (iblk m c 7 t : Vec Ideal S18x64 .f32) = V m c main_call0_v4 := by
  funext y
  have h : ∀ a, win0_7.index t a = 0 := by rcases fin_N0 t with rfl | rfl | rfl | rfl <;> decide
  unfold iblk
  rw [View.read_apply]
  refine congrArg (V m c main_call0_v4) ?_
  funext x; apply Fin.ext
  match x with
  | ⟨0, _⟩ => show win0_7.index t 0 * 18 + 1 * (y 0).val = (y 0).val; rw [h]; omega
  | ⟨1, _⟩ => show win0_7.index t 1 * 64 + 1 * (y 1).val = (y 1).val; rw [h]; omega

theorem whole8 : (iblk m c 8 t : Vec Ideal S18x1 .f32) = V m c main_call0_v5 := by
  funext y
  have h : ∀ a, win0_8.index t a = 0 := by rcases fin_N0 t with rfl | rfl | rfl | rfl <;> decide
  unfold iblk
  rw [View.read_apply]
  refine congrArg (V m c main_call0_v5) ?_
  funext x; apply Fin.ext
  match x with
  | ⟨0, _⟩ => show win0_8.index t 0 * 18 + 1 * (y 0).val = (y 0).val; rw [h]; omega
  | ⟨1, _⟩ => show win0_8.index t 1 * 1 + 1 * (y 1).val = (y 1).val; rw [h]; omega

theorem whole9 : (iblk m c 9 t : Vec Ideal S64x259 .f32) = V m c main_call0_v6 := by
  funext y
  have h : ∀ a, win0_9.index t a = 0 := by rcases fin_N0 t with rfl | rfl | rfl | rfl <;> decide
  unfold iblk
  rw [View.read_apply]
  refine congrArg (V m c main_call0_v6) ?_
  funext x; apply Fin.ext
  match x with
  | ⟨0, _⟩ => show win0_9.index t 0 * 64 + 1 * (y 0).val = (y 0).val; rw [h]; omega
  | ⟨1, _⟩ => show win0_9.index t 1 * 259 + 1 * (y 1).val = (y 1).val; rw [h]; omega

theorem whole10 : (iblk m c 10 t : Vec Ideal S64x1 .f32) = V m c main_call0_v7 := by
  funext y
  have h : ∀ a, win0_10.index t a = 0 := by rcases fin_N0 t with rfl | rfl | rfl | rfl <;> decide
  unfold iblk
  rw [View.read_apply]
  refine congrArg (V m c main_call0_v7) ?_
  funext x; apply Fin.ext
  match x with
  | ⟨0, _⟩ => show win0_10.index t 0 * 64 + 1 * (y 0).val = (y 0).val; rw [h]; omega
  | ⟨1, _⟩ => show win0_10.index t 1 * 1 + 1 * (y 1).val = (y 1).val; rw [h]; omega

theorem whole11 : (iblk m c 11 t : Vec Ideal S576x64 .f32) = V m c main_call0_v8 := by
  funext y
  have h : ∀ a, win0_11.index t a = 0 := by rcases fin_N0 t with rfl | rfl | rfl | rfl <;> decide
  unfold iblk
  rw [View.read_apply]
  refine congrArg (V m c main_call0_v8) ?_
  funext x; apply Fin.ext
  match x with
  | ⟨0, _⟩ => show win0_11.index t 0 * 576 + 1 * (y 0).val = (y 0).val; rw [h]; omega
  | ⟨1, _⟩ => show win0_11.index t 1 * 64 + 1 * (y 1).val = (y 1).val; rw [h]; omega

theorem whole12 : (iblk m c 12 t : Vec Ideal S32x18 .f32) = V m c main_call0_v10 := by
  funext y
  have h : ∀ a, win0_12.index t a = 0 := by rcases fin_N0 t with rfl | rfl | rfl | rfl <;> decide
  unfold iblk
  rw [View.read_apply]
  refine congrArg (V m c main_call0_v10) ?_
  funext x; apply Fin.ext
  match x with
  | ⟨0, _⟩ => show win0_12.index t 0 * 32 + 1 * (y 0).val = (y 0).val; rw [h]; omega
  | ⟨1, _⟩ => show win0_12.index t 1 * 18 + 1 * (y 1).val = (y 1).val; rw [h]; omega

theorem whole13 : (iblk m c 13 t : Vec Ideal S576x18 .f32) = V m c main_call0_cst := by
  funext y
  have h : ∀ a, win0_13.index t a = 0 := by rcases fin_N0 t with rfl | rfl | rfl | rfl <;> decide
  unfold iblk
  rw [View.read_apply]
  refine congrArg (V m c main_call0_cst) ?_
  funext x; apply Fin.ext
  match x with
  | ⟨0, _⟩ => show win0_13.index t 0 * 576 + 1 * (y 0).val = (y 0).val; rw [h]; omega
  | ⟨1, _⟩ => show win0_13.index t 1 * 18 + 1 * (y 1).val = (y 1).val; rw [h]; omega

theorem whole14 : (iblk m c 14 t : Vec Ideal S32x576 .f32) = V m c main_call0_cst_0 := by
  funext y
  have h : ∀ a, win0_14.index t a = 0 := by rcases fin_N0 t with rfl | rfl | rfl | rfl <;> decide
  unfold iblk
  rw [View.read_apply]
  refine congrArg (V m c main_call0_cst_0) ?_
  funext x; apply Fin.ext
  match x with
  | ⟨0, _⟩ => show win0_14.index t 0 * 32 + 1 * (y 0).val = (y 0).val; rw [h]; omega
  | ⟨1, _⟩ => show win0_14.index t 1 * 576 + 1 * (y 1).val = (y 1).val; rw [h]; omega

/-- Window 3, by the argument it is made from. -/
theorem blk_in3 (h : Fin 64) (k : Fin 128) : (iblk m c 3 t : Vec Ideal S64x128 .f32) (ix2 h k)
    = (m ((c : Thread nD τ).loc main_arg3) : Vec Ideal S128x64 .f32) (ix2 k h) := by
  rw [whole3]
  show StableHlo.after hostOps0 _ (Proc.devRef .tc _) _ = _
  after_reads_at

/-- Window 4, by the argument it is made from. -/
theorem blk_in4 (h : Fin 64) : (iblk m c 4 t : Vec Ideal S64x1 .f32) (ix2 h 0)
    = (m ((c : Thread nD τ).loc main_arg4) : Vec Ideal S64 .f32) (ix1 h) := by
  rw [whole4]
  show StableHlo.after hostOps0 _ (Proc.devRef .tc _) _ = _
  after_reads_at

/-- Window 5, by the argument it is made from. -/
theorem blk_in5 (j : Fin 18) (h : Fin 64) : (iblk m c 5 t : Vec Ideal S18x64 .f32) (ix2 j h)
    = (m ((c : Thread nD τ).loc main_arg5) : Vec Ideal S64x18 .f32) (ix2 h j) := by
  rw [whole5]
  show StableHlo.after hostOps0 _ (Proc.devRef .tc _) _ = _
  after_reads_at

/-- Window 6, by the argument it is made from. -/
theorem blk_in6 (j : Fin 18) : (iblk m c 6 t : Vec Ideal S18x1 .f32) (ix2 j 0)
    = (m ((c : Thread nD τ).loc main_arg6) : Vec Ideal S18 .f32) (ix1 j) := by
  rw [whole6]
  show StableHlo.after hostOps0 _ (Proc.devRef .tc _) _ = _
  after_reads_at

/-- Window 7, by the argument it is made from. -/
theorem blk_in7 (j : Fin 18) (h : Fin 64) : (iblk m c 7 t : Vec Ideal S18x64 .f32) (ix2 j h)
    = (m ((c : Thread nD τ).loc main_arg7) : Vec Ideal S64x18 .f32) (ix2 h j) := by
  rw [whole7]
  show StableHlo.after hostOps0 _ (Proc.devRef .tc _) _ = _
  after_reads_at

/-- Window 8, by the argument it is made from. -/
theorem blk_in8 (j : Fin 18) : (iblk m c 8 t : Vec Ideal S18x1 .f32) (ix2 j 0)
    = (m ((c : Thread nD τ).loc main_arg8) : Vec Ideal S18 .f32) (ix1 j) := by
  rw [whole8]
  show StableHlo.after hostOps0 _ (Proc.devRef .tc _) _ = _
  after_reads_at

/-- Window 9, by the argument it is made from. -/
theorem blk_in9 (h : Fin 64) (k : Fin 259) : (iblk m c 9 t : Vec Ideal S64x259 .f32) (ix2 h k)
    = (m ((c : Thread nD τ).loc main_arg9) : Vec Ideal S259x64 .f32) (ix2 k h) := by
  rw [whole9]
  show StableHlo.after hostOps0 _ (Proc.devRef .tc _) _ = _
  after_reads_at

/-- Window 10, by the argument it is made from. -/
theorem blk_in10 (h : Fin 64) : (iblk m c 10 t : Vec Ideal S64x1 .f32) (ix2 h 0)
    = (m ((c : Thread nD τ).loc main_arg10) : Vec Ideal S64 .f32) (ix1 h) := by
  rw [whole10]
  show StableHlo.after hostOps0 _ (Proc.devRef .tc _) _ = _
  after_reads_at

/-- Window 11, by the argument it is made from. -/
theorem blk_in11 (i : Fin 576) (h : Fin 64) : (iblk m c 11 t : Vec Ideal S576x64 .f32) (ix2 i h)
    = (m ((c : Thread nD τ).loc main_arg11) : Vec Ideal S64x576 .f32) (ix2 h i) := by
  rw [whole11]
  show StableHlo.after hostOps0 _ (Proc.devRef .tc _) _ = _
  after_reads_at

/-- The bias of the costs, by the argument it is made from. -/
theorem blk_in12 (i : Fin 576) : bias (iblk m c 12 t) i = (m ((c : Thread nD τ).loc main_arg12) : Vec Ideal S576 .f32) (ix1 i) := by
  unfold bias
  rw [whole12]
  show StableHlo.after hostOps0 _ (Proc.devRef .tc _) _ = _
  after_reads_at
  exact congrArg (fun k => (m ((c : Thread nD τ).loc main_arg12) : Vec Ideal S576 .f32) (ix1 k)) (Fin.ext (Nat.div_add_mod' i.val 32))

/-- The inputs, as the kernel's arguments hold them. -/
def inp : Inp 16384 where
  x b a k := (m ((c : Thread nD τ).loc main_arg0) : Vec Ideal S16384x2x128 .f32) (ix3 b a k)
  W1 k h := (m ((c : Thread nD τ).loc main_arg3) : Vec Ideal S128x64 .f32) (ix2 k h)
  b1 h := (m ((c : Thread nD τ).loc main_arg4) : Vec Ideal S64 .f32) (ix1 h)
  Wa k h := (m ((c : Thread nD τ).loc main_arg5) : Vec Ideal S64x18 .f32) (ix2 k h)
  ba h := (m ((c : Thread nD τ).loc main_arg6) : Vec Ideal S18 .f32) (ix1 h)
  Wo k h := (m ((c : Thread nD τ).loc main_arg7) : Vec Ideal S64x18 .f32) (ix2 k h)
  bo h := (m ((c : Thread nD τ).loc main_arg8) : Vec Ideal S18 .f32) (ix1 h)
  W3 k h := (m ((c : Thread nD τ).loc main_arg9) : Vec Ideal S259x64 .f32) (ix2 k h)
  b3 h := (m ((c : Thread nD τ).loc main_arg10) : Vec Ideal S64 .f32) (ix1 h)
  W4 k h := (m ((c : Thread nD τ).loc main_arg11) : Vec Ideal S64x576 .f32) (ix2 k h)
  b4 h := (m ((c : Thread nD τ).loc main_arg12) : Vec Ideal S576 .f32) (ix1 h)
  u a j b := if a = 0 then (m ((c : Thread nD τ).loc main_arg13) : Vec Ideal S18x16384 .f32) (ix2 j b)
    else (m ((c : Thread nD τ).loc main_arg14) : Vec Ideal S18x16384 .f32) (ix2 j b)

/-- The inputs of some of the samples. -/
def part {N M : ℕ} (I : Inp N) (f : Fin M → Fin N) : Inp M where
  x b := I.x (f b)
  W1 := I.W1
  b1 := I.b1
  Wa := I.Wa
  ba := I.ba
  Wo := I.Wo
  bo := I.bo
  W3 := I.W3
  b3 := I.b3
  W4 := I.W4
  b4 := I.b4
  u a j b := I.u a j (f b)

/-- The inputs a point's blocks hold are those of its samples. -/
theorem blk_inp : binp (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) = part (inp m c) (place t) := by
  unfold binp part inp
  congr 1
  · funext b a k; exact blk_in0 m c t b a k
  · funext k h; exact blk_in3 m c t h k
  · funext h; exact blk_in4 m c t h
  · funext h j; exact blk_in5 m c t j h
  · funext j; exact blk_in6 m c t j
  · funext h j; exact blk_in7 m c t j h
  · funext j; exact blk_in8 m c t j
  · funext k h; exact blk_in9 m c t h k
  · funext h; exact blk_in10 m c t h
  · funext h i; exact blk_in11 m c t i h
  · funext i; exact blk_in12 m c t i
  · funext a j b
    dsimp only
    rw [blk_in1, blk_in2]

end Cert.Proof.Kern
-- ==== Proof.Tab.lean ====
module

public import proofs.«01_k».proof.KernelIdeal

@[expose] public section

set_option maxRecDepth 16384

noncomputable section

namespace Cert.Proof.Kern

open Cert.KernelIdeal Idealize.ShloMosaic

/-- The first table: a one where the row's column of the cost belongs to the type, by rows of 128 words. -/
theorem tab0_words : ∀ (a : Fin 81) (b : Fin 128), lit0 ⟨a.val * 128 + b.val, by show _ < 10368; omega⟩
    = if (a.val * 128 + b.val) / 18 / 32 = (a.val * 128 + b.val) % 18 then 0x3f800000#32 else 0#32 := by
  decide +kernel

/-- The second table: a one where the row's column of the cost has the number. -/
theorem tab1_words : ∀ (a : Fin 144) (b : Fin 128), lit1 ⟨a.val * 128 + b.val, by show _ < 18432; omega⟩
    = if (a.val * 128 + b.val) % 576 % 32 = (a.val * 128 + b.val) / 576 then 0x3f800000#32 else 0#32 := by
  decide +kernel

end Cert.Proof.Kern
-- ==== Proof.KTab.lean ====
module

public import proofs.«01_k».proof.Proof.KIn
public import proofs.«01_k».proof.Proof.Tab
public import Idealize.ShloMosaic.Lib.StableHlo.ReadAt
public import Idealize.ShloMosaic.Lib.Pointwise

@[expose] public section

set_option maxRecDepth 16384

noncomputable section

namespace Cert.Proof.Kern

open Cert.KernelIdeal Cert.KernelIdeal.Gen Idealize.ShloMosaic Idealize.ShloMosaic.TcCoe Idealize.SL.Sem Cert.Proof.Spec

variable (m : (ℓ : Loc nD τ sig) → Buf (Elt Ideal) ℓ) (c : Dev nD) (t : Fin cfg0.N)

/-- The first table by words. -/
theorem word0 (n : Fin 10368) : lit0 n = if n.val / 18 / 32 = n.val % 18 then 0x3f800000#32 else 0#32 := by
  have h := tab0_words ⟨n.val / 128, by omega⟩ ⟨n.val % 128, by omega⟩
  dsimp only at h
  have e : n.val / 128 * 128 + n.val % 128 = n.val := Nat.div_add_mod' ..
  simp only [e] at h
  exact h

/-- The second. -/
theorem word1 (n : Fin 18432) : lit1 n = if n.val % 576 % 32 = n.val / 576 then 0x3f800000#32 else 0#32 := by
  have h := tab1_words ⟨n.val / 128, by omega⟩ ⟨n.val % 128, by omega⟩
  dsimp only at h
  have e : n.val / 128 * 128 + n.val % 128 = n.val := Nat.div_add_mod' ..
  simp only [e] at h
  exact h

/-- The word of one. -/
theorem one_word : @Eq EReal (FloatOps.ofBits (F := Ideal) .f32 0x3f800000#32) 1 := by
  show Ideal.ofBits .f32 1065353216#32 = 1
  simp [Ideal.ofBits, Ideal.ieee, -EReal.coe_mul]
  norm_num

/-- The word of zero. -/
theorem zero_word : @Eq EReal (FloatOps.ofBits (F := Ideal) .f32 0#32) 0 := by
  show Ideal.ofBits .f32 0#32 = 0
  simp [Ideal.ofBits, Ideal.ieee, -EReal.coe_mul]

/-- The table of the types. -/
theorem blk_in13 (i : Fin 576) (k : Fin 18) : @Eq EReal ((iblk m c 13 t : Vec Ideal S576x18 .f32) (ix2 i k)) (if i.val / 32 = k.val then 1 else 0) := by
  rw [whole13]
  show StableHlo.after hostOps0 _ (Proc.devRef .tc _) _ = _
  after_reads_at
  have e : (S576x18.rowMajor (ix2 i k)).val = i.val * 18 + k.val := Shape.rowMajor_val_two _
  refine (congrArg (Ideal.ofBits .f32) (word0 _)).trans ?_
  rw [e, show (i.val * 18 + k.val) / 18 = i.val by omega, show (i.val * 18 + k.val) % 18 = k.val by omega]
  split
  · exact one_word
  · exact zero_word

/-- The table of the costs. -/
theorem blk_in14 (q : Fin 32) (i : Fin 576) : @Eq EReal ((iblk m c 14 t : Vec Ideal S32x576 .f32) (ix2 q i)) (if i.val % 32 = q.val then 1 else 0) := by
  rw [whole14]
  show StableHlo.after hostOps0 _ (Proc.devRef .tc _) _ = _
  after_reads_at
  have e : (S32x576.rowMajor (ix2 q i)).val = q.val * 576 + i.val := Shape.rowMajor_val_two _
  refine (congrArg (Ideal.ofBits .f32) (word1 _)).trans ?_
  rw [e, show (q.val * 576 + i.val) / 576 = q.val by omega, show (q.val * 576 + i.val) % 576 = i.val by omega]
  split
  · exact one_word
  · exact zero_word

end Cert.Proof.Kern
-- ==== Proof.KArr.lean ====
module

public import proofs.«01_k».proof.Proof.KTab

@[expose] public section

set_option maxRecDepth 16384

noncomputable section

namespace Cert.Proof.Kern

open Cert.KernelIdeal Cert.KernelIdeal.Gen Idealize.ShloMosaic Idealize.ShloMosaic.TcCoe Idealize.SL.Sem Cert.Proof.Spec
open Idealize.ShloMosaic.Pipeline (Dat)

variable (m : (ℓ : Loc nD τ sig) → Buf (Elt Ideal) ℓ) (c : Dev nD) (t : Fin cfg0.N)

/-- Every sample lies in a block. -/
theorem placed (b : Fin 16384) : ∃ (t : Fin cfg0.N) (b' : Fin 4096), b = place t b' :=
  ⟨⟨b.val / 4096, by rw [show cfg0.N = 4 from N_0]; omega⟩, ⟨b.val % 4096, by omega⟩, Fin.ext (Nat.div_add_mod' b.val 4096).symm⟩

/-- A point leaves the values of its samples. -/
theorem left15 (a : Fin 2) (q : Fin 32) (b : Fin 4096) : @Eq (EReal) (((outsAt0 m c t.val t.isLt).1 : Vec Ideal S2x32x4096 .f32) (ix3 a q b)) (value (inp m c) a (place t b) q) := by
  by_cases h0 : t.val % 4 = 0
  · rw [outsAt0_A m c t h0]
    dsimp only
    refine (outA15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr h0) (blk_in13 m c t) (blk_in14 m c t) a q b).trans ?_
    rw [blk_inp]
    rfl
  · rw [outsAt0_B m c t h0]
    dsimp only
    refine (outB15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ (fun h => h0 ((hcond0_0 t).mp h)) (blk_in13 m c t) (blk_in14 m c t) a q b).trans ?_
    rw [blk_inp]
    rfl

/-- A point leaves the actions of its samples. -/
theorem left16 (a : Fin 2) (b : Fin 4096) : @Eq (BitVec 32) (((outsAt0 m c t.val t.isLt).2.1 : Vec Ideal S2x4096 .i32) (ix2 a b)) (BitVec.ofNat 32 (act (inp m c) a (place t b)).val) := by
  by_cases h0 : t.val % 4 = 0
  · rw [outsAt0_A m c t h0]
    dsimp only
    refine (outA16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr h0) a b).trans ?_
    rw [blk_inp]
    rfl
  · rw [outsAt0_B m c t h0]
    dsimp only
    refine (outB16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ (fun h => h0 ((hcond0_0 t).mp h)) a b).trans ?_
    rw [blk_inp]
    rfl

/-- A point leaves the log-probabilities of its samples. -/
theorem left17 (a : Fin 2) (b : Fin 4096) : @Eq (EReal) (((outsAt0 m c t.val t.isLt).2.2.1 : Vec Ideal S2x4096 .f32) (ix2 a b)) (alp (inp m c) a (place t b)) := by
  by_cases h0 : t.val % 4 = 0
  · rw [outsAt0_A m c t h0]
    dsimp only
    refine (outA17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr h0) a b).trans ?_
    rw [blk_inp]
    rfl
  · rw [outsAt0_B m c t h0]
    dsimp only
    refine (outB17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ (fun h => h0 ((hcond0_0 t).mp h)) a b).trans ?_
    rw [blk_inp]
    rfl

/-- A point leaves the opponent head's probabilities of its samples. -/
theorem left18 (j : Fin 18) (b : Fin 4096) : @Eq (EReal) (((outsAt0 m c t.val t.isLt).2.2.2.1 : Vec Ideal S18x1x4096 .f32) (ix3 j 0 b)) (soft (opps (inp m c) 1 (place t b)) j) := by
  by_cases h0 : t.val % 4 = 0
  · rw [outsAt0_A m c t h0]
    dsimp only
    refine (outA18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr h0) j b).trans ?_
    rw [blk_inp]
    rfl
  · rw [outsAt0_B m c t h0]
    dsimp only
    refine (outB18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ (fun h => h0 ((hcond0_0 t).mp h)) j b).trans ?_
    rw [blk_inp]
    rfl

/-- Where the point's block of window 15 lies in the array. -/
theorem emb_15 (i : Fin 2) (j : Fin 32) (b : Fin 4096) : ((cfg0.win 15).blk t).view.emb (ix3 i j b : S2x32x4096.Idx) = (ix3 i j (place t b) : S2x32x16384.Idx) := by
  obtain ⟨-, -, -, ⟨h0, h1, h2⟩, -⟩ := idx t
  funext x; apply Fin.ext
  match x with
  | ⟨0, _⟩ => show win0_15.index t 0 * 2 + 1 * i.val = i.val; rw [h0]; omega
  | ⟨1, _⟩ => show win0_15.index t 1 * 32 + 1 * j.val = j.val; rw [h1]; omega
  | ⟨2, _⟩ => show win0_15.index t 2 * 4096 + 1 * b.val = t.val * 4096 + b.val; rw [h2]; omega

/-- What window 15's array ends with. -/
def values : Vec Ideal S2x32x16384 .f32 := fun k => value (inp m c) (k 0) (k 2) (k 1)

theorem final15 : (dats m 0 c).arrAt 15 cfg0.N = values m c := by
  refine (dats m 0 c).arrAt_eq_of_cover 15 (values m c) (fun t _ => ?_) fun i => ?_
  · show (cfg0.win 15).cut (grid0.coords t) ((dats m 0 c).after 15 t) = _
    rw [after0_15]
    funext k
    obtain ⟨i, j, b, rfl⟩ : ∃ (i : Fin 2) (j : Fin 32) (b : Fin 4096), k = ix3 i j b := ⟨k 0, k 1, k 2, by funext a; fin_cases a <;> rfl⟩
    rw [View.read_apply, emb_15]
    exact left15 m c t i j b
  · obtain ⟨t, b, hb⟩ := placed (i 2)
    refine ⟨t, flush0_15 t, ?_⟩
    have e : i = (ix3 (i 0) (i 1) (place t b) : S2x32x16384.Idx) := by
      funext a; fin_cases a <;> first | rfl | exact hb
    exact (congrArg (fun x => x ∈ ((cfg0.win 15).blk t).view.set) ((emb_15 t (i 0) (i 1) b).trans e.symm)).mp (View.emb_mem_set _ _)

/-- Where the point's block of window 16 lies in the array. -/
theorem emb_16 (i : Fin 2) (b : Fin 4096) : ((cfg0.win 16).blk t).view.emb (ix2 i b : S2x4096.Idx) = (ix2 i (place t b) : S2x16384.Idx) := by
  obtain ⟨-, -, -, -, ⟨h0, h1⟩, -⟩ := idx t
  funext x; apply Fin.ext
  match x with
  | ⟨0, _⟩ => show win0_16.index t 0 * 2 + 1 * i.val = i.val; rw [h0]; omega
  | ⟨1, _⟩ => show win0_16.index t 1 * 4096 + 1 * b.val = t.val * 4096 + b.val; rw [h1]; omega

/-- What window 16's array ends with. -/
def actions : Vec Ideal S2x16384 .i32 := fun k => BitVec.ofNat 32 (act (inp m c) (k 0) (k 1)).val

theorem final16 : (dats m 0 c).arrAt 16 cfg0.N = actions m c := by
  refine (dats m 0 c).arrAt_eq_of_cover 16 (actions m c) (fun t _ => ?_) fun i => ?_
  · show (cfg0.win 16).cut (grid0.coords t) ((dats m 0 c).after 16 t) = _
    rw [after0_16]
    funext k
    obtain ⟨i, b, rfl⟩ : ∃ (i : Fin 2) (b : Fin 4096), k = ix2 i b := ⟨k 0, k 1, by funext a; fin_cases a <;> rfl⟩
    rw [View.read_apply, emb_16]
    exact left16 m c t i b
  · obtain ⟨t, b, hb⟩ := placed (i 1)
    refine ⟨t, flush0_16 t, ?_⟩
    have e : i = (ix2 (i 0) (place t b) : S2x16384.Idx) := by
      funext a; fin_cases a <;> first | rfl | exact hb
    exact (congrArg (fun x => x ∈ ((cfg0.win 16).blk t).view.set) ((emb_16 t (i 0) b).trans e.symm)).mp (View.emb_mem_set _ _)

/-- Where the point's block of window 17 lies in the array. -/
theorem emb_17 (i : Fin 2) (b : Fin 4096) : ((cfg0.win 17).blk t).view.emb (ix2 i b : S2x4096.Idx) = (ix2 i (place t b) : S2x16384.Idx) := by
  obtain ⟨-, -, -, -, -, ⟨h0, h1⟩, -⟩ := idx t
  funext x; apply Fin.ext
  match x with
  | ⟨0, _⟩ => show win0_17.index t 0 * 2 + 1 * i.val = i.val; rw [h0]; omega
  | ⟨1, _⟩ => show win0_17.index t 1 * 4096 + 1 * b.val = t.val * 4096 + b.val; rw [h1]; omega

/-- What window 17's array ends with. -/
def alps : Vec Ideal S2x16384 .f32 := fun k => alp (inp m c) (k 0) (k 1)

theorem final17 : (dats m 0 c).arrAt 17 cfg0.N = alps m c := by
  refine (dats m 0 c).arrAt_eq_of_cover 17 (alps m c) (fun t _ => ?_) fun i => ?_
  · show (cfg0.win 17).cut (grid0.coords t) ((dats m 0 c).after 17 t) = _
    rw [after0_17]
    funext k
    obtain ⟨i, b, rfl⟩ : ∃ (i : Fin 2) (b : Fin 4096), k = ix2 i b := ⟨k 0, k 1, by funext a; fin_cases a <;> rfl⟩
    rw [View.read_apply, emb_17]
    exact left17 m c t i b
  · obtain ⟨t, b, hb⟩ := placed (i 1)
    refine ⟨t, flush0_17 t, ?_⟩
    have e : i = (ix2 (i 0) (place t b) : S2x16384.Idx) := by
      funext a; fin_cases a <;> first | rfl | exact hb
    exact (congrArg (fun x => x ∈ ((cfg0.win 17).blk t).view.set) ((emb_17 t (i 0) b).trans e.symm)).mp (View.emb_mem_set _ _)

/-- Where the point's block of window 18 lies in the array. -/
theorem emb_18 (i : Fin 18) (j : Fin 1) (b : Fin 4096) : ((cfg0.win 18).blk t).view.emb (ix3 i j b : S18x1x4096.Idx) = (ix3 i j (place t b) : S18x1x16384.Idx) := by
  obtain ⟨-, -, -, -, -, -, ⟨h0, h1, h2⟩⟩ := idx t
  funext x; apply Fin.ext
  match x with
  | ⟨0, _⟩ => show win0_18.index t 0 * 18 + 1 * i.val = i.val; rw [h0]; omega
  | ⟨1, _⟩ => show win0_18.index t 1 * 1 + 1 * j.val = j.val; rw [h1]; omega
  | ⟨2, _⟩ => show win0_18.index t 2 * 4096 + 1 * b.val = t.val * 4096 + b.val; rw [h2]; omega

/-- What window 18's array ends with. -/
def opp_probs : Vec Ideal S18x1x16384 .f32 := fun k => soft (opps (inp m c) 1 (k 2)) (k 0)

theorem final18 : (dats m 0 c).arrAt 18 cfg0.N = opp_probs m c := by
  refine (dats m 0 c).arrAt_eq_of_cover 18 (opp_probs m c) (fun t _ => ?_) fun i => ?_
  · show (cfg0.win 18).cut (grid0.coords t) ((dats m 0 c).after 18 t) = _
    rw [after0_18]
    funext k
    obtain ⟨i, j, b, rfl⟩ : ∃ (i : Fin 18) (j : Fin 1) (b : Fin 4096), k = ix3 i j b := ⟨k 0, k 1, k 2, by funext a; fin_cases a <;> rfl⟩
    rw [View.read_apply, emb_18]
    rw [Subsingleton.elim j 0]
    exact left18 m c t i b
  · obtain ⟨t, b, hb⟩ := placed (i 2)
    refine ⟨t, flush0_18 t, ?_⟩
    have e : i = (ix3 (i 0) (i 1) (place t b) : S18x1x16384.Idx) := by
      funext a; fin_cases a <;> first | rfl | exact hb
    exact (congrArg (fun x => x ∈ ((cfg0.win 18).blk t).view.set) ((emb_18 t (i 0) (i 1) b).trans e.symm)).mp (View.emb_mem_set _ _)

end Cert.Proof.Kern
-- ==== Proof.KEnt.lean ====
module

public import proofs.«01_k».proof.Proof.KIn

@[expose] public section

set_option maxRecDepth 16384

noncomputable section

namespace Cert.Proof.Kern

open Cert.KernelIdeal Cert.KernelIdeal.Gen Idealize.ShloMosaic Idealize.ShloMosaic.TcCoe Idealize.SL.Sem Cert.Proof.Spec
open Idealize.ShloMosaic.Pipeline (Dat)

variable (m : (ℓ : Loc nD τ sig) → Buf (Elt Ideal) ℓ) (c : Dev nD) (t : Fin cfg0.N)

/-- The rows of `z` that a point's block holds. -/
def rowsOf (z : Fin 2 → Fin 16384 → Fin 18 → EReal) (t : Fin cfg0.N) : Fin 2 → Fin 4096 → Fin 18 → EReal := fun a b => z a (place t b)

/-- What the accumulated entropies hold after point `n`. -/
def acc (z : Fin 2 → Fin 16384 → Fin 18 → EReal) : (n : ℕ) → n < cfg0.N → EReal
  | 0, h => blkEnt (rowsOf z ⟨0, h⟩)
  | n + 1, h => acc z n (Nat.lt_of_succ_lt h) + blkEnt (rowsOf z ⟨n + 1, h⟩)

/-- The entropies of all the samples are those of the four blocks together. -/
theorem ents_split (z : Fin 16384 → Fin 18 → EReal) : ents z = ∑ t : Fin 4, ents (fun b : Fin 4096 => z ⟨t.val * 4096 + b.val, by omega⟩) := by
  unfold ents
  rw [← Fintype.sum_prod_type' (f := fun (t : Fin 4) (b : Fin 4096) => ∑ j, entR (z ⟨t.val * 4096 + b.val, by omega⟩) j)]
  refine (Equiv.sum_comp (finProdFinEquiv (m := 4) (n := 4096)) (fun b : Fin 16384 => ∑ j, entR (z b) j)).symm.trans ?_
  refine Finset.sum_congr rfl fun p _ => ?_
  have e : (finProdFinEquiv (m := 4) (n := 4096) p : Fin 16384) = ⟨p.1.val * 4096 + p.2.val, by omega⟩ :=
    Fin.ext (by show p.2.val + 4096 * p.1.val = _; show _ = p.1.val * 4096 + p.2.val; omega)
  rw [e]

/-- After the last point all the samples are counted. -/
theorem acc_last (z : Fin 2 → Fin 16384 → Fin 18 → EReal) (h : 3 < cfg0.N) : acc z 3 h = ((-(ents (z 0) + ents (z 1)) : ℝ) : EReal) := by
  have e : ∀ a : Fin 2, ents (z a) = ents (rowsOf z ⟨0, by omega⟩ a) + ents (rowsOf z ⟨1, by omega⟩ a) + ents (rowsOf z ⟨2, by omega⟩ a)
      + ents (rowsOf z ⟨3, h⟩ a) := fun a => by
    rw [ents_split (z a), Fin.sum_univ_four]
    rfl
  rw [e, e]
  simp only [acc, blkEnt]
  norm_cast
  congr 1
  ring

/-- What the first point leaves of the entropies. -/
theorem first19 (ht : t.val % 4 = 0) : @Eq EReal (((outsAt0 m c t.val t.isLt).2.2.2.2.1 : Vec Ideal S1x1 .f32) (ix2 0 0)) (blkEnt (rowsOf (logits (inp m c)) t)) := by
  rw [outsAt0_A m c t ht]
  refine (outA19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr ht)).trans ?_
  rw [blk_inp]
  rfl

/-- What a later point leaves of the entropies: what the point before it left, and its own. -/
theorem next19 (ht : ¬t.val % 4 = 0) : @Eq EReal (((outsAt0 m c t.val t.isLt).2.2.2.2.1 : Vec Ideal S1x1 .f32) (ix2 0 0))
    (((outsAt0 m c (t.val - 1) (by have := t.isLt; omega)).2.2.2.2.1 : Vec Ideal S1x1 .f32) (ix2 0 0) + blkEnt (rowsOf (logits (inp m c)) t)) := by
  rw [outsAt0_B m c t ht]
  dsimp only
  refine (outB19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ (fun h => ht ((hcond0_0 t).mp h))).trans ?_
  rw [blk_inp]
  rfl

/-- What point `n` leaves of the entropies. -/
theorem left19 : ∀ (n : ℕ) (h : n < cfg0.N), @Eq EReal (((outsAt0 m c n h).2.2.2.2.1 : Vec Ideal S1x1 .f32) (ix2 0 0)) (acc (logits (inp m c)) n h)
  | 0, h => first19 m c ⟨0, h⟩ rfl
  | n + 1, h => by
    have hB : ¬(⟨n + 1, h⟩ : Fin cfg0.N).val % 4 = 0 := by
      have hN : cfg0.N = 4 := N_0
      dsimp only; omega
    exact (next19 m c ⟨n + 1, h⟩ hB).trans (congrArg (fun e : EReal => e + blkEnt (rowsOf (logits (inp m c)) ⟨n + 1, h⟩)) (left19 n (Nat.lt_of_succ_lt h)))

/-- What the array of the entropies ends with. -/
theorem final19 : (dats m 0 c).arrAt 19 cfg0.N
    = (fun _ => ((-(ents (logits (inp m c) 0) + ents (logits (inp m c) 1)) : ℝ) : EReal) : Vec Ideal S1x1 .f32) := by
  have emb : ∀ (t : Fin cfg0.N) (k : S1x1.Idx), ((cfg0.win 19).blk t).view.emb k = k := fun t k => by
    have h : ∀ a, win0_19.index t a = 0 := by rcases fin_N0 t with rfl | rfl | rfl | rfl <;> decide
    funext x; apply Fin.ext
    match x with
    | ⟨0, _⟩ => show win0_19.index t 0 * 1 + 1 * (k 0).val = (k 0).val; rw [h]; omega
    | ⟨1, _⟩ => show win0_19.index t 1 * 1 + 1 * (k 1).val = (k 1).val; rw [h]; omega
  have one : ∀ k : S1x1.Idx, k = ix2 0 0 := fun k => by
    funext a; fin_cases a <;> exact Subsingleton.elim (α := Fin 1) _ _
  refine (dats m 0 c).arrAt_eq_of_cover 19 (fun _ => ((-(ents (logits (inp m c) 0) + ents (logits (inp m c) 1)) : ℝ) : EReal) : Vec Ideal S1x1 .f32) (fun t hf => ?_) fun i => ?_
  · have h3 : t.val = 3 := by
      have hN : cfg0.N = 4 := N_0
      have := (flush0_19 t).mp hf; have := t.isLt; omega
    obtain rfl : t = t0_3 := Fin.ext h3
    show (cfg0.win 19).cut (grid0.coords t0_3) ((dats m 0 c).after 19 t0_3) = _
    rw [after0_19]
    funext k
    rw [View.read_apply]
    refine (congrArg ((outsAt0 m c t0_3.val t0_3.isLt).2.2.2.2.1 : Vec Ideal S1x1 .f32) (one k)).trans ?_
    exact (left19 m c 3 t0_3.isLt).trans (acc_last _ _)
  · refine ⟨t0_3, (flush0_19 t0_3).mpr rfl, ?_⟩
    have h := ((cfg0.win 19).blk t0_3).view.emb_mem_set i
    rwa [emb] at h

/-- What the first point leaves of the opponent head's entropies. -/
theorem first20 (ht : t.val % 4 = 0) : @Eq EReal (((outsAt0 m c t.val t.isLt).2.2.2.2.2 : Vec Ideal S1x1 .f32) (ix2 0 0)) (blkEnt (rowsOf (opps (inp m c)) t)) := by
  rw [outsAt0_A m c t ht]
  refine (outA20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr ht)).trans ?_
  rw [blk_inp]
  rfl

/-- What a later point leaves of the opponent head's entropies: what the point before it left, and its own. -/
theorem next20 (ht : ¬t.val % 4 = 0) : @Eq EReal (((outsAt0 m c t.val t.isLt).2.2.2.2.2 : Vec Ideal S1x1 .f32) (ix2 0 0))
    (((outsAt0 m c (t.val - 1) (by have := t.isLt; omega)).2.2.2.2.2 : Vec Ideal S1x1 .f32) (ix2 0 0) + blkEnt (rowsOf (opps (inp m c)) t)) := by
  rw [outsAt0_B m c t ht]
  dsimp only
  refine (outB20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ (fun h => ht ((hcond0_0 t).mp h))).trans ?_
  rw [blk_inp]
  rfl

/-- What point `n` leaves of the opponent head's entropies. -/
theorem left20 : ∀ (n : ℕ) (h : n < cfg0.N), @Eq EReal (((outsAt0 m c n h).2.2.2.2.2 : Vec Ideal S1x1 .f32) (ix2 0 0)) (acc (opps (inp m c)) n h)
  | 0, h => first20 m c ⟨0, h⟩ rfl
  | n + 1, h => by
    have hB : ¬(⟨n + 1, h⟩ : Fin cfg0.N).val % 4 = 0 := by
      have hN : cfg0.N = 4 := N_0
      dsimp only; omega
    exact (next20 m c ⟨n + 1, h⟩ hB).trans (congrArg (fun e : EReal => e + blkEnt (rowsOf (opps (inp m c)) ⟨n + 1, h⟩)) (left20 n (Nat.lt_of_succ_lt h)))

/-- What the array of the opponent head's entropies ends with. -/
theorem final20 : (dats m 0 c).arrAt 20 cfg0.N
    = (fun _ => ((-(ents (opps (inp m c) 0) + ents (opps (inp m c) 1)) : ℝ) : EReal) : Vec Ideal S1x1 .f32) := by
  have emb : ∀ (t : Fin cfg0.N) (k : S1x1.Idx), ((cfg0.win 20).blk t).view.emb k = k := fun t k => by
    have h : ∀ a, win0_20.index t a = 0 := by rcases fin_N0 t with rfl | rfl | rfl | rfl <;> decide
    funext x; apply Fin.ext
    match x with
    | ⟨0, _⟩ => show win0_20.index t 0 * 1 + 1 * (k 0).val = (k 0).val; rw [h]; omega
    | ⟨1, _⟩ => show win0_20.index t 1 * 1 + 1 * (k 1).val = (k 1).val; rw [h]; omega
  have one : ∀ k : S1x1.Idx, k = ix2 0 0 := fun k => by
    funext a; fin_cases a <;> exact Subsingleton.elim (α := Fin 1) _ _
  refine (dats m 0 c).arrAt_eq_of_cover 20 (fun _ => ((-(ents (opps (inp m c) 0) + ents (opps (inp m c) 1)) : ℝ) : EReal) : Vec Ideal S1x1 .f32) (fun t hf => ?_) fun i => ?_
  · have h3 : t.val = 3 := by
      have hN : cfg0.N = 4 := N_0
      have := (flush0_20 t).mp hf; have := t.isLt; omega
    obtain rfl : t = t0_3 := Fin.ext h3
    show (cfg0.win 20).cut (grid0.coords t0_3) ((dats m 0 c).after 20 t0_3) = _
    rw [after0_20]
    funext k
    rw [View.read_apply]
    refine (congrArg ((outsAt0 m c t0_3.val t0_3.isLt).2.2.2.2.2 : Vec Ideal S1x1 .f32) (one k)).trans ?_
    exact (left20 m c 3 t0_3.isLt).trans (acc_last _ _)
  · refine ⟨t0_3, (flush0_20 t0_3).mpr rfl, ?_⟩
    have h := ((cfg0.win 20).blk t0_3).view.emb_mem_set i
    rwa [emb] at h

end Cert.Proof.Kern
-- ==== Proof.KTail.lean ====
module

public import proofs.«01_k».proof.Proof.KArr
public import proofs.«01_k».proof.Proof.KEnt

@[expose] public section

set_option maxRecDepth 16384

noncomputable section

namespace Cert.Proof.Kern

open Cert.KernelIdeal Cert.KernelIdeal.Gen Idealize.ShloMosaic Idealize.ShloMosaic.TcCoe Idealize.SL.Sem Cert.Proof.Spec
open Idealize.ShloMosaic.Pipeline (Dat)

variable (m : (ℓ : Loc nD τ sig) → Buf (Elt Ideal) ℓ) (ρ : Dev nD → PrngReg) (c : Dev nD)

/-- What every buffer holds when the pipeline is done. -/
abbrev mid : Valuation τ sig (Elt Ideal) := Pipeline.withArrays spec0 c (V0 m c) fun w => (dats m 0 c).arrAt w cfg0.N

theorem mid_arr (w : Fin 21) : mid m c (Proc.devRef .tc (Pipeline.arrRef spec0 w)) = (dats m 0 c).arrAt w cfg0.N :=
  Pipeline.withArrays_arr spec0 winFacts0.arr_inj c (V0 m c) (fun w => (dats m 0 c).arrAt w cfg0.N) w

/-- What a buffer holds at the end. -/
abbrev last (b : Ref sig .tc) : Buf (Elt Ideal) ((c : Thread nD τ).loc b) := Pipeline.afterTail₀ cfgs (dats m) 0 (V0 m) [hostOps1] c b

/-- The sum times the word of one over 32768 is the mean. -/
theorem scaled (x : EReal) (z : Fin 2 → Fin 16384 → Fin 18 → EReal) (h : x = ((-(ents (z 0) + ents (z 1)) : ℝ) : EReal)) :
    x * Ideal.ofBits .f32 939524096#32 = meanEnt z := by
  rw [h, bits_scale, meanEnt, ← EReal.coe_mul]
  congr 1
  ring

set_option maxHeartbeats 400000 in
/-- The values returned. -/
theorem res_v0_0 (a : Fin 2) (b : Fin 16384) (q : Fin 32) : @Eq (EReal) ((last m c main_v0_0 : Vec Ideal S2x16384x32 .f32) (ix3 a b q)) (value (inp m c) a b q) := by
  show StableHlo.after hostOps1 (mid m c) (Proc.devRef .tc main_v0_0) _ = _
  after_reads_at
  exact congrFun ((mid_arr m c 15).trans (final15 m c)) (ix3 a q b)

set_option maxHeartbeats 400000 in
/-- The actions returned. -/
theorem res_v0_1 (b : Fin 16384) (a : Fin 2) : @Eq (BitVec 32) ((last m c main_v0_1 : Vec Ideal S16384x2 .i32) (ix2 b a)) (BitVec.ofNat 32 (act (inp m c) a b).val) := by
  show StableHlo.after hostOps1 (mid m c) (Proc.devRef .tc main_v0_1) _ = _
  after_reads_at
  exact congrFun ((mid_arr m c 16).trans (final16 m c)) (ix2 a b)

set_option maxHeartbeats 400000 in
/-- The log-probabilities returned. -/
theorem res_v0_2 (b : Fin 16384) (a : Fin 2) : @Eq (EReal) ((last m c main_v0_2 : Vec Ideal S16384x2 .f32) (ix2 b a)) (alp (inp m c) a b) := by
  show StableHlo.after hostOps1 (mid m c) (Proc.devRef .tc main_v0_2) _ = _
  after_reads_at
  exact congrFun ((mid_arr m c 17).trans (final17 m c)) (ix2 a b)

set_option maxHeartbeats 400000 in
/-- The opponent head's probabilities returned. -/
theorem res_v0_4 (b : Fin 16384) (j : Fin 18) : @Eq (EReal) ((last m c main_v0_4 : Vec Ideal S16384x1x18 .f32) (ix3 b 0 j)) (soft (opps (inp m c) 1 b) j) := by
  show StableHlo.after hostOps1 (mid m c) (Proc.devRef .tc main_v0_4) _ = _
  after_reads_at
  exact congrFun ((mid_arr m c 18).trans (final18 m c)) (ix3 j 0 b)

set_option maxHeartbeats 400000 in
/-- The mean entropy returned. -/
theorem res_v0_3 : @Eq EReal ((last m c main_v0_3 : Vec Ideal S_ .f32) ix0) (meanEnt (logits (inp m c))) := by
  show StableHlo.after hostOps1 (mid m c) (Proc.devRef .tc main_v0_3) _ = _
  after_reads_at
  exact scaled _ _ (congrFun ((mid_arr m c 19).trans (final19 m c)) (ix2 0 0))

set_option maxHeartbeats 400000 in
/-- The opponent head's mean entropy returned. -/
theorem res_v0_5 : @Eq EReal ((last m c main_v0_5 : Vec Ideal S_ .f32) ix0) (meanEnt (opps (inp m c))) := by
  show StableHlo.after hostOps1 (mid m c) (Proc.devRef .tc main_v0_5) _ = _
  after_reads_at
  exact scaled _ _ (congrFun ((mid_arr m c 20).trans (final20 m c)) (ix2 0 0))

end Cert.Proof.Kern
-- ==== Proof.RefRead.lean ====
module

public import proofs.«01_k».proof.Proof.RefArgs
public import proofs.«01_k».proof.Proof.Model
public import Idealize.ShloMosaic.Lib.StableHlo.ReadAt
public import Idealize.ShloMosaic.Lib.Pointwise

@[expose] public section

set_option maxRecDepth 16384

noncomputable section

namespace Cert.Proof.Ref

open Cert.ReferenceIdeal Cert.ReferenceIdeal.Gen Idealize.ShloMosaic Idealize.ShloMosaic.StableHlo Idealize.SL.Sem

/-- What every buffer holds at the end. -/
abbrev fin (V : Valuation τ sig (Elt Ideal)) : Valuation τ sig (Elt Ideal) := after ops V

/-- What every buffer holds before operation `a`. -/
def at_ (a : ℕ) (V : Valuation τ sig (Elt Ideal)) : Valuation τ sig (Elt Ideal) := after (ops.take a) V

/-- Operations `a … a+n-1`. -/
abbrev seg (a n : ℕ) : List (HloOp τ sig (Elt Ideal)) := (ops.drop a).take n

/-- A buffer that no operation from the `a`-th on writes holds before it what it holds at the end. -/
theorem held {a : ℕ} {r : Ref sig .tc} (h : ∀ Y : Valuation τ sig (Elt Ideal), after (ops.drop a) Y (Proc.devRef .tc r) = Y (Proc.devRef .tc r))
    (V : Valuation τ sig (Elt Ideal)) : at_ a V (Proc.devRef .tc r) = fin V (Proc.devRef .tc r) := by
  have := h (at_ a V)
  rw [← this, at_, fin, ← StableHlo.after_append, List.take_append_drop]

/-- A buffer that no operation after the first `a + n` writes is read off the `n` operations before. -/
theorem by_seg (a n : ℕ) {r : Ref sig .tc} (h : ∀ Y : Valuation τ sig (Elt Ideal), after (ops.drop (a + n)) Y (Proc.devRef .tc r) = Y (Proc.devRef .tc r))
    (V : Valuation τ sig (Elt Ideal)) : fin V (Proc.devRef .tc r) = after (seg a n) (at_ a V) (Proc.devRef .tc r) := by
  have h1 : fin V = after (ops.drop (a + n)) (after (seg a n) (at_ a V)) := by
    rw [at_, fin, seg, ← StableHlo.after_append, ← StableHlo.after_append, ← List.drop_drop, List.take_append_drop,
      List.take_append_drop]
  rw [h1, h]

/-- The programs' common inputs, as the reference's arguments hold them. -/
def inp (V : Valuation τ sig (Elt Ideal)) : Spec.Inp 16384 where
  x b a k := (V (Proc.devRef .tc main_arg0) : (⟨S16384x2x128, .f32⟩ : BufTy).Contents (Elt Ideal)) (ix3 b a k)
  W1 k h := (V (Proc.devRef .tc main_arg3) : (⟨S128x64, .f32⟩ : BufTy).Contents (Elt Ideal)) (ix2 k h)
  b1 h := (V (Proc.devRef .tc main_arg4) : (⟨S64, .f32⟩ : BufTy).Contents (Elt Ideal)) (ix1 h)
  Wa k h := (V (Proc.devRef .tc main_arg5) : (⟨S64x18, .f32⟩ : BufTy).Contents (Elt Ideal)) (ix2 k h)
  ba h := (V (Proc.devRef .tc main_arg6) : (⟨S18, .f32⟩ : BufTy).Contents (Elt Ideal)) (ix1 h)
  Wo k h := (V (Proc.devRef .tc main_arg7) : (⟨S64x18, .f32⟩ : BufTy).Contents (Elt Ideal)) (ix2 k h)
  bo h := (V (Proc.devRef .tc main_arg8) : (⟨S18, .f32⟩ : BufTy).Contents (Elt Ideal)) (ix1 h)
  W3 k h := (V (Proc.devRef .tc main_arg9) : (⟨S259x64, .f32⟩ : BufTy).Contents (Elt Ideal)) (ix2 k h)
  b3 h := (V (Proc.devRef .tc main_arg10) : (⟨S64, .f32⟩ : BufTy).Contents (Elt Ideal)) (ix1 h)
  W4 k h := (V (Proc.devRef .tc main_arg11) : (⟨S64x576, .f32⟩ : BufTy).Contents (Elt Ideal)) (ix2 k h)
  b4 h := (V (Proc.devRef .tc main_arg12) : (⟨S576, .f32⟩ : BufTy).Contents (Elt Ideal)) (ix1 h)
  u a j b := if a = 0 then (V (Proc.devRef .tc main_arg13) : (⟨S18x16384, .f32⟩ : BufTy).Contents (Elt Ideal)) (ix2 j b)
    else (V (Proc.devRef .tc main_arg14) : (⟨S18x16384, .f32⟩ : BufTy).Contents (Elt Ideal)) (ix2 j b)

/-- The arguments end as they began. -/
theorem inp_fin (V : Valuation τ sig (Elt Ideal)) : inp (fin V) = inp V := by
  obtain ⟨h0, -, -, h3, h4, h5, h6, h7, h8, h9, h10, h11, h12, h13, h14⟩ := args_kept (F := Ideal) V
  unfold inp fin
  rw [h0, h3, h4, h5, h6, h7, h8, h9, h10, h11, h12, h13, h14]

section

variable (V : Valuation τ sig (Elt Ideal)) (b : Fin 16384) (j : Fin 18)

set_option maxHeartbeats 2000000 in
/-- Agent 0's logits. -/
theorem logits0 : @Eq EReal ((fin V (Proc.devRef .tc main_v11) : (⟨S16384x18, .f32⟩ : BufTy).Contents (Elt Ideal)) (ix2 b j))
    (Spec.logits (inp (fin V)) 0 b j) := by
  rw [by_seg 0 17 (fun Y => by after_reads_simp) V]
  after_reads_at
  rw [held (by intro Y; after_reads_simp), held (by intro Y; after_reads_simp), held (by intro Y; after_reads_simp),
    held (by intro Y; after_reads_simp), held (by intro Y; after_reads_simp)]
  rfl

end

end Cert.Proof.Ref
-- ==== Proof.RefA.lean ====
module

public import proofs.«01_k».proof.Proof.RefRead

@[expose] public section

set_option maxRecDepth 16384

noncomputable section

namespace Cert.Proof.Ref

open Cert.ReferenceIdeal Cert.ReferenceIdeal.Gen Idealize.ShloMosaic Idealize.ShloMosaic.StableHlo Idealize.SL.Sem

variable (V : Valuation τ sig (Elt Ideal)) (b : Fin 16384) (j : Fin 18)

set_option maxHeartbeats 400000 in
/-- The observations with the agents in front. -/
theorem obs (a : Fin 2) (b : Fin 16384) (k : Fin 128) : @Eq (EReal) ((fin V (Proc.devRef .tc main_v0) : (⟨S2x16384x128, .f32⟩ : BufTy).Contents (Elt Ideal)) (ix3 a b k))
    ((inp (fin V)).x b a k) := by
  rw [by_seg 0 1 (fun Y => by after_reads_simp) V]
  after_reads_at
  repeat rw [held (by intro Y; after_reads_simp)]
  rfl

set_option maxHeartbeats 400000 in
/-- The opponent head's logits for agent 0. -/
theorem opps0 : @Eq (EReal) ((fin V (Proc.devRef .tc main_v16) : (⟨S16384x1x18, .f32⟩ : BufTy).Contents (Elt Ideal)) (ix3 b 0 j))
    (Spec.opps (inp (fin V)) 0 b j) := by
  rw [by_seg 0 17 (fun Y => by after_reads_simp) V]
  after_reads_at
  repeat rw [held (by intro Y; after_reads_simp)]
  exact Spec.opps_of (inp (fin V)) 0 b (fun _ => rfl) (fun _ _ => rfl) (fun _ => rfl) (fun _ _ => rfl) (fun _ => rfl) j

set_option maxHeartbeats 400000 in
/-- Their log-softmax. -/
theorem oppLog0 : @Eq (EReal) ((fin V (Proc.devRef .tc main_call0.v11.ref) : (⟨S16384x1x18, .f32⟩ : BufTy).Contents (Elt Ideal)) (ix3 b 0 j))
    (Spec.logSm (Spec.opps (inp (fin V)) 0 b) j) := by
  rw [by_seg 31 15 (fun Y => by after_reads_simp) V]
  after_reads_at
  repeat rw [held (by intro Y; after_reads_simp)]
  exact Spec.logSm_of (opps0 V b) j

set_option maxHeartbeats 400000 in
/-- The mean entropy of the opponent head for agent 0. -/
theorem oppEnt0 : @Eq (EReal) ((fin V (Proc.devRef .tc main_v34) : (⟨S_, .f32⟩ : BufTy).Contents (Elt Ideal)) (ix0))
    (Spec.sampleEnt (Spec.opps (inp (fin V)) 0)) := by
  rw [by_seg 46 9 (fun Y => by after_reads_simp) V]
  after_reads_at
  repeat rw [held (by intro Y; after_reads_simp)]
  exact Spec.sampleEnt_of' (oppLog0 V)

set_option maxHeartbeats 400000 in
/-- Agent 0's log-softmax. -/
theorem lg0 : @Eq (EReal) ((fin V (Proc.devRef .tc main_call2.v11.ref) : (⟨S16384x18, .f32⟩ : BufTy).Contents (Elt Ideal)) (ix2 b j))
    (Spec.logSm (Spec.logits (inp (fin V)) 0 b) j) := by
  rw [by_seg 66 15 (fun Y => by after_reads_simp) V]
  after_reads_at
  repeat rw [held (by intro Y; after_reads_simp)]
  exact Spec.logSm_of (logits0 V b) j

set_option maxHeartbeats 400000 in
/-- Agent 0's log-softmax, taken again for the entropy. -/
theorem lge0 : @Eq (EReal) ((fin V (Proc.devRef .tc main_call4.v11.ref) : (⟨S16384x18, .f32⟩ : BufTy).Contents (Elt Ideal)) (ix2 b j))
    (Spec.logSm (Spec.logits (inp (fin V)) 0 b) j) := by
  rw [by_seg 105 15 (fun Y => by after_reads_simp) V]
  after_reads_at
  repeat rw [held (by intro Y; after_reads_simp)]
  exact Spec.logSm_of (logits0 V b) j

set_option maxHeartbeats 400000 in
/-- The mean entropy of agent 0. -/
theorem ent0 : @Eq (EReal) ((fin V (Proc.devRef .tc main_v52) : (⟨S_, .f32⟩ : BufTy).Contents (Elt Ideal)) (ix0))
    (Spec.sampleEnt (Spec.logits (inp (fin V)) 0)) := by
  rw [by_seg 120 9 (fun Y => by after_reads_simp) V]
  after_reads_at
  repeat rw [held (by intro Y; after_reads_simp)]
  exact Spec.sampleEnt_of (lge0 V)

set_option maxHeartbeats 400000 in
/-- Agent 0's logits with the noise. -/
theorem noisy0 : @Eq (EReal) ((fin V (Proc.devRef .tc main_v40) : (⟨S16384x18, .f32⟩ : BufTy).Contents (Elt Ideal)) (ix2 b j))
    (Spec.noise ((inp (fin V)).u 0 j b) + Spec.logits (inp (fin V)) 0 b j) := by
  rw [by_seg 55 6 (fun Y => by after_reads_simp) V]
  after_reads_at
  repeat rw [held (by intro Y; after_reads_simp)]
  exact Spec.noisy_of rfl (logits0 V b j)

set_option maxHeartbeats 400000 in
/-- Agent 1's logits. -/
theorem logits1 : @Eq (EReal) ((fin V (Proc.devRef .tc main_v63) : (⟨S16384x18, .f32⟩ : BufTy).Contents (Elt Ideal)) (ix2 b j))
    (Spec.logits (inp (fin V)) 1 b j) := by
  rw [by_seg 127 18 (fun Y => by after_reads_simp) V]
  after_reads_at
  repeat rw [held (by intro Y; after_reads_simp)]
  exact Spec.logits_of (inp (fin V)) 1 b (obs V 1 b) (fun _ _ => rfl) (fun _ => rfl) (fun _ _ => rfl) (fun _ => rfl) j

set_option maxHeartbeats 400000 in
/-- The opponent head's logits for agent 1. -/
theorem opps1 : @Eq (EReal) ((fin V (Proc.devRef .tc main_v68) : (⟨S16384x1x18, .f32⟩ : BufTy).Contents (Elt Ideal)) (ix3 b 0 j))
    (Spec.opps (inp (fin V)) 1 b j) := by
  rw [by_seg 127 18 (fun Y => by after_reads_simp) V]
  after_reads_at
  repeat rw [held (by intro Y; after_reads_simp)]
  exact Spec.opps_of (inp (fin V)) 1 b (obs V 1 b) (fun _ _ => rfl) (fun _ => rfl) (fun _ _ => rfl) (fun _ => rfl) j

set_option maxHeartbeats 400000 in
/-- Their log-softmax. -/
theorem oppLog1 : @Eq (EReal) ((fin V (Proc.devRef .tc main_call5.v11.ref) : (⟨S16384x1x18, .f32⟩ : BufTy).Contents (Elt Ideal)) (ix3 b 0 j))
    (Spec.logSm (Spec.opps (inp (fin V)) 1 b) j) := by
  rw [by_seg 159 15 (fun Y => by after_reads_simp) V]
  after_reads_at
  repeat rw [held (by intro Y; after_reads_simp)]
  exact Spec.logSm_of (opps1 V b) j

set_option maxHeartbeats 400000 in
/-- The mean entropy of the opponent head for agent 1. -/
theorem oppEnt1 : @Eq (EReal) ((fin V (Proc.devRef .tc main_v86) : (⟨S_, .f32⟩ : BufTy).Contents (Elt Ideal)) (ix0))
    (Spec.sampleEnt (Spec.opps (inp (fin V)) 1)) := by
  rw [by_seg 174 9 (fun Y => by after_reads_simp) V]
  after_reads_at
  repeat rw [held (by intro Y; after_reads_simp)]
  exact Spec.sampleEnt_of' (oppLog1 V)

set_option maxHeartbeats 400000 in
/-- Agent 1's log-softmax. -/
theorem lg1 : @Eq (EReal) ((fin V (Proc.devRef .tc main_call7.v11.ref) : (⟨S16384x18, .f32⟩ : BufTy).Contents (Elt Ideal)) (ix2 b j))
    (Spec.logSm (Spec.logits (inp (fin V)) 1 b) j) := by
  rw [by_seg 194 15 (fun Y => by after_reads_simp) V]
  after_reads_at
  repeat rw [held (by intro Y; after_reads_simp)]
  exact Spec.logSm_of (logits1 V b) j

set_option maxHeartbeats 400000 in
/-- Agent 1's log-softmax, taken again for the entropy. -/
theorem lge1 : @Eq (EReal) ((fin V (Proc.devRef .tc main_call9.v11.ref) : (⟨S16384x18, .f32⟩ : BufTy).Contents (Elt Ideal)) (ix2 b j))
    (Spec.logSm (Spec.logits (inp (fin V)) 1 b) j) := by
  rw [by_seg 233 15 (fun Y => by after_reads_simp) V]
  after_reads_at
  repeat rw [held (by intro Y; after_reads_simp)]
  exact Spec.logSm_of (logits1 V b) j

set_option maxHeartbeats 400000 in
/-- The mean entropy of agent 1. -/
theorem ent1 : @Eq (EReal) ((fin V (Proc.devRef .tc main_v104) : (⟨S_, .f32⟩ : BufTy).Contents (Elt Ideal)) (ix0))
    (Spec.sampleEnt (Spec.logits (inp (fin V)) 1)) := by
  rw [by_seg 248 9 (fun Y => by after_reads_simp) V]
  after_reads_at
  repeat rw [held (by intro Y; after_reads_simp)]
  exact Spec.sampleEnt_of (lge1 V)

set_option maxHeartbeats 400000 in
/-- Agent 1's logits with the noise. -/
theorem noisy1 : @Eq (EReal) ((fin V (Proc.devRef .tc main_v92) : (⟨S16384x18, .f32⟩ : BufTy).Contents (Elt Ideal)) (ix2 b j))
    (Spec.noise ((inp (fin V)).u 1 j b) + Spec.logits (inp (fin V)) 1 b j) := by
  rw [by_seg 183 6 (fun Y => by after_reads_simp) V]
  after_reads_at
  repeat rw [held (by intro Y; after_reads_simp)]
  exact Spec.noisy_of rfl (logits1 V b j)

set_option maxHeartbeats 400000 in
/-- The opponent head's probabilities for agent 1. -/
theorem oppProbs : @Eq (EReal) ((fin V (Proc.devRef .tc main_v79) : (⟨S16384x1x18, .f32⟩ : BufTy).Contents (Elt Ideal)) (ix3 b 0 j))
    (Spec.soft (Spec.opps (inp (fin V)) 1 b) j) := by
  rw [by_seg 145 14 (fun Y => by after_reads_simp) V]
  after_reads_at
  repeat rw [held (by intro Y; after_reads_simp)]
  exact Spec.soft_of (opps1 V b) j

set_option maxHeartbeats 400000 in
/-- The mean entropy of the two agents. -/
theorem distEnt : @Eq (EReal) ((fin V (Proc.devRef .tc main_v107) : (⟨S_, .f32⟩ : BufTy).Contents (Elt Ideal)) (ix0))
    (Spec.meanEnt (Spec.logits (inp (fin V)))) := by
  rw [by_seg 257 5 (fun Y => by after_reads_simp) V]
  after_reads_at
  repeat rw [held (by intro Y; after_reads_simp)]
  rw [ent0, ent1, Spec.bits_two]
  exact Spec.meanEnt_halves _

set_option maxHeartbeats 400000 in
/-- The mean entropy of the two opponent heads. -/
theorem oppDistEnt : @Eq (EReal) ((fin V (Proc.devRef .tc main_v110) : (⟨S_, .f32⟩ : BufTy).Contents (Elt Ideal)) (ix0))
    (Spec.meanEnt (Spec.opps (inp (fin V)))) := by
  rw [by_seg 262 5 (fun Y => by after_reads_simp) V]
  after_reads_at
  repeat rw [held (by intro Y; after_reads_simp)]
  rw [oppEnt0, oppEnt1, Spec.bits_two]
  exact Spec.meanEnt_halves _

end Cert.Proof.Ref
-- ==== Proof.RefArg.lean ====
module

public import proofs.«01_k».proof.Proof.RefA

@[expose] public section

set_option maxRecDepth 16384

noncomputable section

namespace Cert.Proof.Ref

open Cert.ReferenceIdeal Cert.ReferenceIdeal.Gen Idealize.ShloMosaic Idealize.ShloMosaic.StableHlo Idealize.SL.Sem

/-- One step of the search for the largest entry keeps one of the two pairs, and the one kept beats the other. -/
theorem argmax_step (a b : EReal × BitVec 32) :
    (reducer_argmax_f32_i32 (F := Ideal) a b = a ∧ Spec.Beats a b) ∨ (reducer_argmax_f32_i32 (F := Ideal) a b = b ∧ Spec.Beats b a) := by
  obtain ⟨x, i⟩ := a
  obtain ⟨y, k⟩ := b
  have e : reducer_argmax_f32_i32 (F := Ideal) (x, i) (y, k)
      = (if y < x then x else y, if y < x ∨ (x = y ∧ i.toInt < k.toInt) then i else k) := by
    by_cases h1 : y < x <;> by_cases h2 : x = y <;> by_cases h3 : i.toInt < k.toInt <;>
      simp [reducer_argmax_f32_i32, FloatOps.cmpf, Ideal.cmp, IntOp.ori, IntOp.andi, IntOp.cmpi, Scalar.select, BitVec.slt, h1, h2, h3]
  rw [e]
  unfold Spec.Beats
  dsimp only
  rcases lt_trichotomy x y with h | h | h
  · right; rw [if_neg h.not_gt, if_neg (by rintro (h' | h'); exacts [h.not_gt h', h.ne h'.1])]; exact ⟨rfl, Or.inl h⟩
  · subst h
    by_cases h3 : i.toInt < k.toInt
    · left; rw [if_neg (lt_irrefl _), if_pos (Or.inr ⟨rfl, h3⟩)]; exact ⟨rfl, Or.inr ⟨rfl, h3.le⟩⟩
    · right; rw [if_neg (lt_irrefl _), if_neg (by rintro (h' | h'); exacts [lt_irrefl _ h', h3 h'.2])]; exact ⟨rfl, Or.inr ⟨rfl, not_lt.1 h3⟩⟩
  · left; rw [if_pos h, if_pos (Or.inl h)]; exact ⟨rfl, Or.inl h⟩

/-- The search finds the first place at which a row is largest. -/
theorem argmax_of (x : Vec Ideal S16384x18 .f32) (b : Fin 16384) (s : Fin 18 → EReal) (hx : ∀ j, @Eq EReal (x (ix2 b j)) (s j))
    (h : S16384x18.ReducesTo [1] S16384) (hu : 0 < S_.numel) :
    (Host.argReduce reducer_argmax_f32_i32 x (iotaInDim S16384x18 32 1) (constant (F := Ideal) S_ FTy.f32 4286578688#32) (constantI S_ 32 0#32) h hu (ix1 b)).2
      = BitVec.ofNat 32 (Spec.pick s).val := by
  rw [Ideal.argReduce_eq_reduce2, Host.reduce2_eq_foldl_fiber]
  have hi : ((constant (F := Ideal) S_ FTy.f32 4286578688#32) (Shape.Idx.first hu), (constantI S_ 32 0#32) (Shape.Idx.first hu))
      = ((⊥ : EReal), 0#32) := Prod.ext Spec.bits_bot rfl
  rw [hi]
  refine Spec.foldl_pick _ argmax_step s _ fun p => ?_
  have hd : ∀ i : S16384x18.Idx, h.drop i = ix1 b ↔ i 0 = b := fun i => by
    have hv : (h.drop i 0 : Nat) = i 0 := Shape.ReducesTo.drop_apply_val h i 0
    constructor
    · intro e; rw [e] at hv; exact Fin.ext hv.symm
    · intro e; funext a; fin_cases a; exact Fin.ext (hv.trans (congrArg Fin.val e))
  unfold Host.argReduceFiber
  simp only [List.mem_map, List.mem_filter, List.mem_finRange, true_and, decide_eq_true_eq, hd]
  constructor
  · rintro ⟨n, hn, rfl⟩
    refine ⟨S16384x18.rowMajor.symm n 1, Prod.ext ?_ rfl⟩
    have e : S16384x18.rowMajor.symm n = ix2 b (S16384x18.rowMajor.symm n 1) := by
      funext a; fin_cases a
      · exact hn
      · rfl
    exact (congrArg x e).trans (hx _)
  · rintro ⟨i, rfl⟩
    refine ⟨S16384x18.rowMajor (ix2 b i), ?_, ?_⟩
    · rw [Equiv.symm_apply_apply]; rfl
    · rw [Equiv.symm_apply_apply]; exact Prod.ext (hx i) rfl

/-- An action's number is not negative and at most 17, so the lookup leaves it and its mask is set. -/
theorem look (w : BitVec 32) (p : Fin 18) (hw : w = BitVec.ofNat 32 p.val) :
    Scalar.select (IntOp.cmpi .slt w 0#32) (IntOp.addi w 18#32) w = BitVec.ofNat 32 p.val
      ∧ IntOp.andi (IntOp.cmpi .sge (Scalar.select (IntOp.cmpi .slt w 0#32) (IntOp.addi w 18#32) w) 0#32)
          (IntOp.cmpi .sle (Scalar.select (IntOp.cmpi .slt w 0#32) (IntOp.addi w 18#32) w) 17#32) = 1#1 := by
  subst hw
  revert p
  decide

/-- A lookup in a row of 18 entries. -/
theorem take2 (x : Vec Ideal S16384x18 .f32) (idx : IVec S16384x1x1 32) (b : Fin 16384) (p : Fin 18)
    (h : idx (ix3 b 0 0) = BitVec.ofNat 32 p.val) :
    @Eq EReal (Host.gather gather_S16384x18_S16384x1x1_S16384x1_n_1_0_0_1_2_11 x idx (ix2 b 0)) (x (ix2 b p)) := by
  have hs : gather_S16384x18_S16384x1x1_S16384x1_n_1_0_0_1_2_11.start (ix2 b 0) idx 1 = p.val := by
    have e : gather_S16384x18_S16384x1x1_S16384x1_n_1_0_0_1_2_11.start (ix2 b 0) idx 1 = min (idx (ix3 b 0 0)).toInt.toNat 17 := by
      unfold GatherDims.start
      rw [dif_pos (by decide)]
      congr 4
      funext a
      fin_cases a <;> rfl
    rw [e, h, Spec.toInt_place]
    have := p.isLt
    omega
  unfold Host.gather
  refine congrArg x (funext fun a => Fin.ext ?_)
  match a with
  | ⟨0, _⟩ =>
    show 0 + b.val + 0 = b.val
    omega
  | ⟨1, _⟩ =>
    show gather_S16384x18_S16384x1x1_S16384x1_n_1_0_0_1_2_11.start (ix2 b 0) idx 1 + 0 + 0 = p.val
    rw [hs, Nat.add_zero]

/-- A lookup of one of 18 rows of 32 entries. -/
theorem take3 (x : Vec Ideal S16384x18x32 .f32) (idx : IVec S16384x1x1 32) (b : Fin 16384) (p : Fin 18) (q : Fin 32)
    (h : idx (ix3 b 0 0) = BitVec.ofNat 32 p.val) :
    @Eq EReal (Host.gather gather_S16384x18x32_S16384x1x1_S16384x1x32_2_1_0_0_1_2_1132 x idx (ix3 b 0 q)) (x (ix3 b p q)) := by
  have hs : gather_S16384x18x32_S16384x1x1_S16384x1x32_2_1_0_0_1_2_1132.start (ix3 b 0 q) idx 1 = p.val := by
    have e : gather_S16384x18x32_S16384x1x1_S16384x1x32_2_1_0_0_1_2_1132.start (ix3 b 0 q) idx 1 = min (idx (ix3 b 0 0)).toInt.toNat 17 := by
      unfold GatherDims.start
      rw [dif_pos (by decide)]
      congr 4
      funext a
      fin_cases a <;> rfl
    rw [e, h, Spec.toInt_place]
    have := p.isLt
    omega
  unfold Host.gather
  refine congrArg x (funext fun a => Fin.ext ?_)
  match a with
  | ⟨0, _⟩ =>
    show 0 + b.val + 0 = b.val
    omega
  | ⟨1, _⟩ =>
    show gather_S16384x18x32_S16384x1x1_S16384x1x32_2_1_0_0_1_2_1132.start (ix3 b 0 q) idx 1 + 0 + 0 = p.val
    rw [hs, Nat.add_zero]
  | ⟨2, _⟩ =>
    show 0 + 0 + q.val = q.val
    omega

/-- The lookup with its mask, in a row. -/
theorem along2 (x : Vec Ideal S16384x18 .f32) (w : Fin 1 → BitVec 32) (idx : IVec S16384x1x1 32) (b : Fin 16384) (p : Fin 18) (z : EReal)
    (hw : ∀ k, w k = BitVec.ofNat 32 p.val)
    (h : idx (ix3 b 0 0) = Scalar.select (IntOp.cmpi .slt (w 0) 0#32) (IntOp.addi (w 0) 18#32) (w 0)) :
    @Eq EReal (Scalar.select (Finset.fold IntOp.andi (1#1) (fun k => IntOp.andi
        (IntOp.cmpi .sge (Scalar.select (IntOp.cmpi .slt (w k) 0#32) (IntOp.addi (w k) 18#32) (w k)) 0#32)
        (IntOp.cmpi .sle (Scalar.select (IntOp.cmpi .slt (w k) 0#32) (IntOp.addi (w k) 18#32) (w k)) 17#32)) Finset.univ)
      (Host.gather gather_S16384x18_S16384x1x1_S16384x1_n_1_0_0_1_2_11 x idx (ix2 b 0)) z) (x (ix2 b p)) := by
  simp only [fun k => (look (w k) p (hw k)).2]
  rw [take2 x idx b p (h.trans (look (w 0) p (hw 0)).1)]
  rfl

/-- The lookup with its mask, of a row of 32. -/
theorem along3 (x : Vec Ideal S16384x18x32 .f32) (w : Fin 1 → BitVec 32) (idx : IVec S16384x1x1 32) (b : Fin 16384) (p : Fin 18) (q : Fin 32) (z : EReal)
    (hw : ∀ k, w k = BitVec.ofNat 32 p.val)
    (h : idx (ix3 b 0 0) = Scalar.select (IntOp.cmpi .slt (w 0) 0#32) (IntOp.addi (w 0) 18#32) (w 0)) :
    @Eq EReal (Scalar.select (Finset.fold IntOp.andi (1#1) (fun k => IntOp.andi
        (IntOp.cmpi .sge (Scalar.select (IntOp.cmpi .slt (w k) 0#32) (IntOp.addi (w k) 18#32) (w k)) 0#32)
        (IntOp.cmpi .sle (Scalar.select (IntOp.cmpi .slt (w k) 0#32) (IntOp.addi (w k) 18#32) (w k)) 17#32)) Finset.univ)
      (Host.gather gather_S16384x18x32_S16384x1x1_S16384x1x32_2_1_0_0_1_2_1132 x idx (ix3 b 0 q)) z) (x (ix3 b p q)) := by
  simp only [fun k => (look (w k) p (hw k)).2]
  rw [take3 x idx b p q (h.trans (look (w 0) p (hw 0)).1)]
  rfl

/-- An action's number as a real number. -/
theorem num_of (w : BitVec 32) (p : Fin 18) (hw : w = BitVec.ofNat 32 p.val) : @Eq EReal (FloatOps.sitofp (F := Ideal) .f32 w) (Spec.num p.val) := by
  subst hw
  show (((BitVec.ofNat 32 p.val).toInt : ℝ) : EReal) = _
  rw [Spec.toInt_place]
  simp [Spec.num]

/-- The critic's inputs joined from the observations side by side, the agent's number and the actions. -/
theorem cvec_flat (x : Fin 2 → Fin 128 → EReal) (g : EReal) (p : Fin 2 → EReal) (i : Fin 259) (A : Fin 256 → EReal) (B : Fin 1 → EReal)
    (C : Fin 2 → EReal) (hA : ∀ k, A k = x ⟨k.val / 128, by omega⟩ ⟨k.val % 128, by omega⟩) (hB : ∀ k, B k = g) (hC : ∀ c, C c = p c) :
    (if h : i.val < 256 then A ⟨i.val, h⟩ else if h : i.val - 256 < 1 then B ⟨i.val - 256, h⟩ else C ⟨i.val - 256 - 1, by omega⟩)
      = Spec.cvec (x 0) (x 1) g p i := by
  unfold Spec.cvec
  by_cases h1 : i.val < 128
  · rw [dif_pos (by omega), dif_pos h1, hA]
    exact congrArg₂ x (Fin.ext (by show i.val / 128 = 0; omega)) (Fin.ext (by show i.val % 128 = i.val; omega))
  · by_cases h2 : i.val < 256
    · rw [dif_pos h2, dif_neg h1, dif_pos h2, hA]
      exact congrArg₂ x (Fin.ext (by show i.val / 128 = 1; omega)) (Fin.ext (by show i.val % 128 = i.val - 128; omega))
    · by_cases h3 : i.val < 257
      · rw [dif_neg h2, dif_pos (by omega), dif_neg h1, dif_neg h2, dif_pos h3, hB]
      · rw [dif_neg h2, dif_neg (by omega), dif_neg h1, dif_neg h2, dif_neg h3, hC]
        exact congrArg p (Fin.ext (by show i.val - 256 - 1 = i.val - 257; omega))

/-- A row of features, entry by entry. -/
theorem feat_of {K H : ℕ} {x x' : Fin K → EReal} (W : Fin K → Fin H → EReal) (c : Fin H → EReal) (hx : ∀ k, x k = x' k) (h : Fin H) :
    Ideal.tanh ((∑ k, x k * W k h) + c h) = Spec.feat x' W c h := by
  obtain rfl : x = x' := funext hx
  rfl

/-- An affine map, entry by entry. -/
theorem aff_of {K H : ℕ} {x x' : Fin K → EReal} (W : Fin K → Fin H → EReal) (c : Fin H → EReal) (hx : ∀ k, x k = x' k) (h : Fin H) :
    (∑ k, x k * W k h) + c h = Spec.aff x' W c h := by
  obtain rfl : x = x' := funext hx
  rfl

end Cert.Proof.Ref
-- ==== Proof.RefB.lean ====
module

public import proofs.«01_k».proof.Proof.RefArg

@[expose] public section

set_option maxRecDepth 16384

noncomputable section

namespace Cert.Proof.Ref

open Cert.ReferenceIdeal Cert.ReferenceIdeal.Gen Idealize.ShloMosaic Idealize.ShloMosaic.StableHlo Idealize.SL.Sem

variable (V : Valuation τ sig (Elt Ideal)) (b : Fin 16384) (j : Fin 18)

set_option maxHeartbeats 400000 in
/-- Agent 0's action. -/
theorem act0 : @Eq (BitVec 32) ((fin V (Proc.devRef .tc main_call1.v1_1.ref) : (⟨S16384, .i32⟩ : BufTy).Contents (Elt Ideal)) (ix1 b))
    (BitVec.ofNat 32 (Spec.act (inp (fin V)) 0 b).val) := by
  rw [by_seg 61 5 (fun Y => by after_reads_simp) V]
  after_reads_at
  repeat rw [held (by intro Y; after_reads_simp)]
  exact argmax_of _ b _ (noisy0 V b) _ _

set_option maxHeartbeats 400000 in
/-- Agent 0's action as a column. -/
theorem col0 : @Eq (BitVec 32) ((fin V (Proc.devRef .tc main_v45) : (⟨S16384x1, .i32⟩ : BufTy).Contents (Elt Ideal)) (ix2 b 0))
    (BitVec.ofNat 32 (Spec.act (inp (fin V)) 0 b).val) := by
  rw [by_seg 104 1 (fun Y => by after_reads_simp) V]
  after_reads_at
  repeat rw [held (by intro Y; after_reads_simp)]
  exact act0 V b

set_option maxHeartbeats 400000 in
/-- The log-probability of agent 0's action. -/
theorem alp0 : @Eq (EReal) ((fin V (Proc.devRef .tc main_call3.v15.ref) : (⟨S16384x1, .f32⟩ : BufTy).Contents (Elt Ideal)) (ix2 b 0))
    (Spec.alp (inp (fin V)) 0 b) := by
  rw [by_seg 81 23 (fun Y => by after_reads_simp) V]
  after_reads_at
  repeat rw [held (by intro Y; after_reads_simp)]
  refine Eq.trans ?_ (lg0 V b (Spec.act (inp (fin V)) 0 b))
  exact along2 _ (fun _ => (fin V (Proc.devRef .tc main_call1.v1_1.ref) : (⟨S16384, .i32⟩ : BufTy).Contents (Elt Ideal)) (ix1 b)) _ b _ _ (fun _ => act0 V b) rfl

set_option maxHeartbeats 400000 in
/-- Agent 1's action. -/
theorem act1 : @Eq (BitVec 32) ((fin V (Proc.devRef .tc main_call6.v1_1.ref) : (⟨S16384, .i32⟩ : BufTy).Contents (Elt Ideal)) (ix1 b))
    (BitVec.ofNat 32 (Spec.act (inp (fin V)) 1 b).val) := by
  rw [by_seg 189 5 (fun Y => by after_reads_simp) V]
  after_reads_at
  repeat rw [held (by intro Y; after_reads_simp)]
  exact argmax_of _ b _ (noisy1 V b) _ _

set_option maxHeartbeats 400000 in
/-- Agent 1's action as a column. -/
theorem col1 : @Eq (BitVec 32) ((fin V (Proc.devRef .tc main_v97) : (⟨S16384x1, .i32⟩ : BufTy).Contents (Elt Ideal)) (ix2 b 0))
    (BitVec.ofNat 32 (Spec.act (inp (fin V)) 1 b).val) := by
  rw [by_seg 232 1 (fun Y => by after_reads_simp) V]
  after_reads_at
  repeat rw [held (by intro Y; after_reads_simp)]
  exact act1 V b

set_option maxHeartbeats 400000 in
/-- The log-probability of agent 1's action. -/
theorem alp1 : @Eq (EReal) ((fin V (Proc.devRef .tc main_call8.v15.ref) : (⟨S16384x1, .f32⟩ : BufTy).Contents (Elt Ideal)) (ix2 b 0))
    (Spec.alp (inp (fin V)) 1 b) := by
  rw [by_seg 209 23 (fun Y => by after_reads_simp) V]
  after_reads_at
  repeat rw [held (by intro Y; after_reads_simp)]
  refine Eq.trans ?_ (lg1 V b (Spec.act (inp (fin V)) 1 b))
  exact along2 _ (fun _ => (fin V (Proc.devRef .tc main_call6.v1_1.ref) : (⟨S16384, .i32⟩ : BufTy).Contents (Elt Ideal)) (ix1 b)) _ b _ _ (fun _ => act1 V b) rfl

set_option maxHeartbeats 400000 in
/-- The actions. -/
theorem acts (a : Fin 2) : @Eq (BitVec 32) ((fin V (Proc.devRef .tc main_v111) : (⟨S16384x2, .i32⟩ : BufTy).Contents (Elt Ideal)) (ix2 b a))
    (BitVec.ofNat 32 (Spec.act (inp (fin V)) a b).val) := by
  rw [by_seg 267 1 (fun Y => by after_reads_simp) V]
  after_reads_at
  by_cases h : a.val < 1
  · obtain rfl : a = 0 := Fin.ext (by show a.val = 0; omega)
    exact (dif_pos h).trans ((congrFun (held (a := 267) (r := main_v45) (by intro Y; after_reads_simp) V) _).trans (col0 V b))
  · obtain rfl : a = 1 := Fin.ext (by show a.val = 1; omega)
    exact (dif_neg h).trans ((congrFun (held (a := 267) (r := main_v97) (by intro Y; after_reads_simp) V) _).trans (col1 V b))

set_option maxHeartbeats 400000 in
/-- The log-probabilities. -/
theorem alps (a : Fin 2) : @Eq (EReal) ((fin V (Proc.devRef .tc main_v112) : (⟨S16384x2, .f32⟩ : BufTy).Contents (Elt Ideal)) (ix2 b a))
    (Spec.alp (inp (fin V)) a b) := by
  rw [by_seg 268 1 (fun Y => by after_reads_simp) V]
  after_reads_at
  by_cases h : a.val < 1
  · obtain rfl : a = 0 := Fin.ext (by show a.val = 0; omega)
    exact (dif_pos h).trans ((congrFun (held (a := 268) (r := main_v44) (by intro Y; after_reads_simp) V) _).trans (alp0 V b))
  · obtain rfl : a = 1 := Fin.ext (by show a.val = 1; omega)
    exact (dif_neg h).trans ((congrFun (held (a := 268) (r := main_v96) (by intro Y; after_reads_simp) V) _).trans (alp1 V b))

set_option maxHeartbeats 400000 in
/-- The observations side by side. -/
theorem flat (k : Fin 256) : @Eq (EReal) ((fin V (Proc.devRef .tc main_v114) : (⟨S16384x256, .f32⟩ : BufTy).Contents (Elt Ideal)) (ix2 b k))
    ((inp (fin V)).x b ⟨k.val / 128, by omega⟩ ⟨k.val % 128, by omega⟩) := by
  rw [by_seg 269 2 (fun Y => by after_reads_simp) V]
  after_reads_at
  repeat rw [held (by intro Y; after_reads_simp)]
  exact obs V _ b _

set_option maxHeartbeats 400000 in
/-- Agent 0's number as a column. -/
theorem gate0 : @Eq (EReal) ((fin V (Proc.devRef .tc main_v117) : (⟨S16384x1, .f32⟩ : BufTy).Contents (Elt Ideal)) (ix2 b 0))
    (Spec.num 0) := by
  rw [by_seg 271 5 (fun Y => by after_reads_simp) V]
  after_reads_at
  repeat rw [held (by intro Y; after_reads_simp)]
  simp [Spec.num]

set_option maxHeartbeats 400000 in
/-- The actions as real numbers. -/
theorem nums0 (a : Fin 2) : @Eq (EReal) ((fin V (Proc.devRef .tc main_v118) : (⟨S16384x2, .f32⟩ : BufTy).Contents (Elt Ideal)) (ix2 b a))
    (Spec.num (Spec.act (inp (fin V)) a b).val) := by
  rw [by_seg 276 1 (fun Y => by after_reads_simp) V]
  after_reads_at
  repeat rw [held (by intro Y; after_reads_simp)]
  exact num_of _ _ (acts V b a)

set_option maxHeartbeats 400000 in
/-- The critic's inputs for agent 0. -/
theorem crit0 (i : Fin 259) : @Eq (EReal) ((fin V (Proc.devRef .tc main_v119) : (⟨S16384x259, .f32⟩ : BufTy).Contents (Elt Ideal)) (ix2 b i))
    (Spec.cin (inp (fin V)) 0 b i) := by
  rw [by_seg 277 1 (fun Y => by after_reads_simp) V]
  after_reads_at
  refine cvec_flat ((inp (fin V)).x b) (Spec.num 0) (fun c => Spec.num (Spec.act (inp (fin V)) c b).val) i (fun k => (at_ 277 V (Proc.devRef .tc main_v114) : (⟨S16384x256, .f32⟩ : BufTy).Contents (Elt Ideal)) (ix2 b k))
    (fun k => (at_ 277 V (Proc.devRef .tc main_v117) : (⟨S16384x1, .f32⟩ : BufTy).Contents (Elt Ideal)) (ix2 b k)) (fun k => (at_ 277 V (Proc.devRef .tc main_v118) : (⟨S16384x2, .f32⟩ : BufTy).Contents (Elt Ideal)) (ix2 b k)) (fun k => ?_) (fun k => ?_) (fun k => ?_)
  · rw [held (by intro Y; after_reads_simp)]
    exact flat V b k
  · rw [held (by intro Y; after_reads_simp)]
    rw [Subsingleton.elim k 0]
    exact gate0 V b
  · rw [held (by intro Y; after_reads_simp)]
    exact nums0 V b k

set_option maxHeartbeats 400000 in
/-- The critic's features for agent 0. -/
theorem hid0 (h : Fin 64) : @Eq (EReal) ((fin V (Proc.devRef .tc main_v124) : (⟨S16384x64, .f32⟩ : BufTy).Contents (Elt Ideal)) (ix2 b h))
    (Spec.feat (Spec.cin (inp (fin V)) 0 b) (inp (fin V)).W3 (inp (fin V)).b3 h) := by
  rw [by_seg 278 5 (fun Y => by after_reads_simp) V]
  after_reads_at
  repeat rw [held (by intro Y; after_reads_simp)]
  exact feat_of (inp (fin V)).W3 (inp (fin V)).b3 (crit0 V b) h

set_option maxHeartbeats 400000 in
/-- The values of agent 0 for every action. -/
theorem rows0 (p : Fin 18) (q : Fin 32) : @Eq (EReal) ((fin V (Proc.devRef .tc main_v129) : (⟨S16384x18x32, .f32⟩ : BufTy).Contents (Elt Ideal)) (ix3 b p q))
    (Spec.aff (Spec.feat (Spec.cin (inp (fin V)) 0 b) (inp (fin V)).W3 (inp (fin V)).b3) (inp (fin V)).W4 (inp (fin V)).b4 (Spec.cell p q)) := by
  rw [by_seg 283 5 (fun Y => by after_reads_simp) V]
  after_reads_at
  repeat rw [held (by intro Y; after_reads_simp)]
  exact aff_of (inp (fin V)).W4 (inp (fin V)).b4 (hid0 V b) (Spec.cell p q)

set_option maxHeartbeats 400000 in
/-- Agent 0's action as the key of the lookup. -/
theorem key0 : @Eq (BitVec 32) ((fin V (Proc.devRef .tc main_v132) : (⟨S16384x1x1, .i32⟩ : BufTy).Contents (Elt Ideal)) (ix3 b 0 0))
    (BitVec.ofNat 32 (Spec.act (inp (fin V)) 0 b).val) := by
  rw [by_seg 288 3 (fun Y => by after_reads_simp) V]
  after_reads_at
  repeat rw [held (by intro Y; after_reads_simp)]
  exact acts V b 0

set_option maxHeartbeats 400000 in
/-- The value of agent 0. -/
theorem val0 (q : Fin 32) : @Eq (EReal) ((fin V (Proc.devRef .tc main_v134) : (⟨S16384x32, .f32⟩ : BufTy).Contents (Elt Ideal)) (ix2 b q))
    (Spec.value (inp (fin V)) 0 b q) := by
  rw [by_seg 291 23 (fun Y => by after_reads_simp) V]
  after_reads_at
  repeat rw [held (by intro Y; after_reads_simp)]
  refine Eq.trans ?_ (rows0 V b (Spec.act (inp (fin V)) 0 b) q)
  exact along3 _ (fun k => (fin V (Proc.devRef .tc main_v132) : (⟨S16384x1x1, .i32⟩ : BufTy).Contents (Elt Ideal)) (ix3 b 0 k)) _ b _ q _ (fun k => by rw [Subsingleton.elim k 0]; exact key0 V b) rfl

set_option maxHeartbeats 400000 in
/-- Agent 1's number as a column. -/
theorem gate1 : @Eq (EReal) ((fin V (Proc.devRef .tc main_v137) : (⟨S16384x1, .f32⟩ : BufTy).Contents (Elt Ideal)) (ix2 b 0))
    (Spec.num 1) := by
  rw [by_seg 314 5 (fun Y => by after_reads_simp) V]
  after_reads_at
  repeat rw [held (by intro Y; after_reads_simp)]
  simp [Spec.num]

set_option maxHeartbeats 400000 in
/-- The actions as real numbers. -/
theorem nums1 (a : Fin 2) : @Eq (EReal) ((fin V (Proc.devRef .tc main_v138) : (⟨S16384x2, .f32⟩ : BufTy).Contents (Elt Ideal)) (ix2 b a))
    (Spec.num (Spec.act (inp (fin V)) a b).val) := by
  rw [by_seg 319 1 (fun Y => by after_reads_simp) V]
  after_reads_at
  repeat rw [held (by intro Y; after_reads_simp)]
  exact num_of _ _ (acts V b a)

set_option maxHeartbeats 400000 in
/-- The critic's inputs for agent 1. -/
theorem crit1 (i : Fin 259) : @Eq (EReal) ((fin V (Proc.devRef .tc main_v139) : (⟨S16384x259, .f32⟩ : BufTy).Contents (Elt Ideal)) (ix2 b i))
    (Spec.cin (inp (fin V)) 1 b i) := by
  rw [by_seg 320 1 (fun Y => by after_reads_simp) V]
  after_reads_at
  refine cvec_flat ((inp (fin V)).x b) (Spec.num 1) (fun c => Spec.num (Spec.act (inp (fin V)) c b).val) i (fun k => (at_ 320 V (Proc.devRef .tc main_v114) : (⟨S16384x256, .f32⟩ : BufTy).Contents (Elt Ideal)) (ix2 b k))
    (fun k => (at_ 320 V (Proc.devRef .tc main_v137) : (⟨S16384x1, .f32⟩ : BufTy).Contents (Elt Ideal)) (ix2 b k)) (fun k => (at_ 320 V (Proc.devRef .tc main_v138) : (⟨S16384x2, .f32⟩ : BufTy).Contents (Elt Ideal)) (ix2 b k)) (fun k => ?_) (fun k => ?_) (fun k => ?_)
  · rw [held (by intro Y; after_reads_simp)]
    exact flat V b k
  · rw [held (by intro Y; after_reads_simp)]
    rw [Subsingleton.elim k 0]
    exact gate1 V b
  · rw [held (by intro Y; after_reads_simp)]
    exact nums1 V b k

set_option maxHeartbeats 400000 in
/-- The critic's features for agent 1. -/
theorem hid1 (h : Fin 64) : @Eq (EReal) ((fin V (Proc.devRef .tc main_v144) : (⟨S16384x64, .f32⟩ : BufTy).Contents (Elt Ideal)) (ix2 b h))
    (Spec.feat (Spec.cin (inp (fin V)) 1 b) (inp (fin V)).W3 (inp (fin V)).b3 h) := by
  rw [by_seg 321 5 (fun Y => by after_reads_simp) V]
  after_reads_at
  repeat rw [held (by intro Y; after_reads_simp)]
  exact feat_of (inp (fin V)).W3 (inp (fin V)).b3 (crit1 V b) h

set_option maxHeartbeats 400000 in
/-- The values of agent 1 for every action. -/
theorem rows1 (p : Fin 18) (q : Fin 32) : @Eq (EReal) ((fin V (Proc.devRef .tc main_v149) : (⟨S16384x18x32, .f32⟩ : BufTy).Contents (Elt Ideal)) (ix3 b p q))
    (Spec.aff (Spec.feat (Spec.cin (inp (fin V)) 1 b) (inp (fin V)).W3 (inp (fin V)).b3) (inp (fin V)).W4 (inp (fin V)).b4 (Spec.cell p q)) := by
  rw [by_seg 326 5 (fun Y => by after_reads_simp) V]
  after_reads_at
  repeat rw [held (by intro Y; after_reads_simp)]
  exact aff_of (inp (fin V)).W4 (inp (fin V)).b4 (hid1 V b) (Spec.cell p q)

set_option maxHeartbeats 400000 in
/-- Agent 1's action as the key of the lookup. -/
theorem key1 : @Eq (BitVec 32) ((fin V (Proc.devRef .tc main_v152) : (⟨S16384x1x1, .i32⟩ : BufTy).Contents (Elt Ideal)) (ix3 b 0 0))
    (BitVec.ofNat 32 (Spec.act (inp (fin V)) 1 b).val) := by
  rw [by_seg 331 3 (fun Y => by after_reads_simp) V]
  after_reads_at
  repeat rw [held (by intro Y; after_reads_simp)]
  exact acts V b 1

set_option maxHeartbeats 400000 in
/-- The value of agent 1. -/
theorem val1 (q : Fin 32) : @Eq (EReal) ((fin V (Proc.devRef .tc main_v154) : (⟨S16384x32, .f32⟩ : BufTy).Contents (Elt Ideal)) (ix2 b q))
    (Spec.value (inp (fin V)) 1 b q) := by
  rw [by_seg 334 23 (fun Y => by after_reads_simp) V]
  after_reads_at
  repeat rw [held (by intro Y; after_reads_simp)]
  refine Eq.trans ?_ (rows1 V b (Spec.act (inp (fin V)) 1 b) q)
  exact along3 _ (fun k => (fin V (Proc.devRef .tc main_v152) : (⟨S16384x1x1, .i32⟩ : BufTy).Contents (Elt Ideal)) (ix3 b 0 k)) _ b _ q _ (fun k => by rw [Subsingleton.elim k 0]; exact key1 V b) rfl

set_option maxHeartbeats 400000 in
/-- The two agents' values one below the other. -/
theorem stack (e : Fin 32768) (q : Fin 32) : @Eq (EReal) ((fin V (Proc.devRef .tc main_v155) : (⟨S32768x32, .f32⟩ : BufTy).Contents (Elt Ideal)) (ix2 e q))
    (Spec.value (inp (fin V)) ⟨e.val / 16384, by omega⟩ ⟨e.val % 16384, by omega⟩ q) := by
  rw [by_seg 357 1 (fun Y => by after_reads_simp) V]
  after_reads_at
  by_cases h : e.val < 16384
  · refine (dif_pos h).trans ((congrFun (held (a := 357) (r := main_v134) (by intro Y; after_reads_simp) V) _).trans ((val0 V ⟨e.val, h⟩ q).trans ?_))
    exact congrArg₂ (fun a b => Spec.value (inp (fin V)) a b q) (Fin.ext (by show 0 = e.val / 16384; omega)) (Fin.ext (by show e.val = e.val % 16384; omega))
  · refine (dif_neg h).trans ((congrFun (held (a := 357) (r := main_v154) (by intro Y; after_reads_simp) V) _).trans ((val1 V ⟨e.val - 16384, by omega⟩ q).trans ?_))
    exact congrArg₂ (fun a b => Spec.value (inp (fin V)) a b q) (Fin.ext (by show 1 = e.val / 16384; omega)) (Fin.ext (by show e.val - 16384 = e.val % 16384; omega))

set_option maxHeartbeats 400000 in
/-- The values. -/
theorem values (a : Fin 2) (q : Fin 32) : @Eq (EReal) ((fin V (Proc.devRef .tc main_v156) : (⟨S2x16384x32, .f32⟩ : BufTy).Contents (Elt Ideal)) (ix3 a b q))
    (Spec.value (inp (fin V)) a b q) := by
  rw [by_seg 358 1 (fun Y => by after_reads_simp) V]
  after_reads_at
  repeat rw [held (by intro Y; after_reads_simp)]
  refine (stack V ⟨a.val * 16384 + b.val, by omega⟩ q).trans ?_
  exact congrArg₂ (fun a b => Spec.value (inp (fin V)) a b q) (Fin.ext (by show (a.val * 16384 + b.val) / 16384 = a.val; omega)) (Fin.ext (by show (a.val * 16384 + b.val) % 16384 = b.val; omega))

end Cert.Proof.Ref
-- ==== Proof.Algebra.lean ====
module

public import proofs.«01_k».proof.Defs
public import proofs.«01_k».proof.Proof.KTail
public import proofs.«01_k».proof.Proof.RefB
public import Idealize.ShloMosaic.Lib.Claim

@[expose] public section

set_option maxRecDepth 16384

noncomputable section

namespace Cert.Proof

open Idealize.ShloMosaic Idealize.ShloMosaic.TcCoe Idealize.SL.Sem

/-- The kernel's memories. -/
abbrev KMem : Type := (ℓ : Loc KernelIdeal.nD KernelIdeal.τ KernelIdeal.sig) → Buf (Elt Ideal) ℓ

/-- What the reference's buffers hold. -/
abbrev RVal : Type := Valuation ReferenceIdeal.τ ReferenceIdeal.sig (Elt Ideal)

variable (m : KMem) (c : Dev KernelIdeal.nD) (V : RVal) (h : Kern.inp m c = Ref.inp V)

/-- A place of a rank-3 array is given by its three coordinates. -/
theorem place3 {x y z : ℕ} (k : (⟨3, ![x, y, z]⟩ : Shape).Idx) : k = ix3 (k 0) (k 1) (k 2) := by
  funext a; fin_cases a <;> rfl

/-- A place of a rank-2 array is given by its two coordinates. -/
theorem place2 {x y : ℕ} (k : (⟨2, ![x, y]⟩ : Shape).Idx) : k = ix2 (k 0) (k 1) := by
  funext a; fin_cases a <;> rfl

/-- A number has a single place. -/
theorem place0 (k : (⟨0, ![]⟩ : Shape).Idx) : k = ix0 := Subsingleton.elim _ _

include h

/-- From the same inputs. -/
theorem same : Kern.inp m c = Ref.inp (Ref.fin V) := h.trans (Ref.inp_fin V).symm

/-- The values agree. -/
theorem same_values : @Eq (Vec Ideal KernelIdeal.S2x16384x32 .f32) (Kern.last m c KernelIdeal.main_v0_0) (Ref.fin V (Proc.devRef .tc ReferenceIdeal.main_v156)) := by
  funext k
  have hk : k = (ix3 (k 0) (k 1) (k 2)) := (place3 k)
  have e1 := Kern.res_v0_0 m c (k 0) (k 1) (k 2)
  rw [same m c V h] at e1
  have e2 := e1.trans (Ref.values V (k 1) (k 0) (k 2)).symm
  exact (congrArg (Kern.last m c KernelIdeal.main_v0_0 : Vec Ideal KernelIdeal.S2x16384x32 .f32) hk).trans (e2.trans (congrArg (Ref.fin V (Proc.devRef .tc ReferenceIdeal.main_v156) : Vec Ideal KernelIdeal.S2x16384x32 .f32) hk.symm))

/-- The actions agree. -/
theorem same_acts : @Eq (Vec Ideal KernelIdeal.S16384x2 .i32) (Kern.last m c KernelIdeal.main_v0_1) (Ref.fin V (Proc.devRef .tc ReferenceIdeal.main_v111)) := by
  funext k
  have hk : k = (ix2 (k 0) (k 1)) := (place2 k)
  have e1 := Kern.res_v0_1 m c (k 0) (k 1)
  rw [same m c V h] at e1
  have e2 := e1.trans (Ref.acts V (k 0) (k 1)).symm
  exact (congrArg (Kern.last m c KernelIdeal.main_v0_1 : Vec Ideal KernelIdeal.S16384x2 .i32) hk).trans (e2.trans (congrArg (Ref.fin V (Proc.devRef .tc ReferenceIdeal.main_v111) : Vec Ideal KernelIdeal.S16384x2 .i32) hk.symm))

/-- The log-probabilities agree. -/
theorem same_alps : @Eq (Vec Ideal KernelIdeal.S16384x2 .f32) (Kern.last m c KernelIdeal.main_v0_2) (Ref.fin V (Proc.devRef .tc ReferenceIdeal.main_v112)) := by
  funext k
  have hk : k = (ix2 (k 0) (k 1)) := (place2 k)
  have e1 := Kern.res_v0_2 m c (k 0) (k 1)
  rw [same m c V h] at e1
  have e2 := e1.trans (Ref.alps V (k 0) (k 1)).symm
  exact (congrArg (Kern.last m c KernelIdeal.main_v0_2 : Vec Ideal KernelIdeal.S16384x2 .f32) hk).trans (e2.trans (congrArg (Ref.fin V (Proc.devRef .tc ReferenceIdeal.main_v112) : Vec Ideal KernelIdeal.S16384x2 .f32) hk.symm))

/-- The mean entropies agree. -/
theorem same_ent : @Eq (Vec Ideal KernelIdeal.S_ .f32) (Kern.last m c KernelIdeal.main_v0_3) (Ref.fin V (Proc.devRef .tc ReferenceIdeal.main_v107)) := by
  funext k
  have hk : k = ix0 := (place0 k)
  have e1 := Kern.res_v0_3 m c
  rw [same m c V h] at e1
  have e2 := e1.trans (Ref.distEnt V).symm
  exact (congrArg (Kern.last m c KernelIdeal.main_v0_3 : Vec Ideal KernelIdeal.S_ .f32) hk).trans (e2.trans (congrArg (Ref.fin V (Proc.devRef .tc ReferenceIdeal.main_v107) : Vec Ideal KernelIdeal.S_ .f32) hk.symm))

/-- The opponent head's probabilities agree. -/
theorem same_opp : @Eq (Vec Ideal KernelIdeal.S16384x1x18 .f32) (Kern.last m c KernelIdeal.main_v0_4) (Ref.fin V (Proc.devRef .tc ReferenceIdeal.main_v79)) := by
  funext k
  have hk : k = (ix3 (k 0) 0 (k 2)) := by
    funext a
    match a with
    | ⟨0, _⟩ => rfl
    | ⟨1, _⟩ => exact Subsingleton.elim (α := Fin 1) _ _
    | ⟨2, _⟩ => rfl
  have e1 := Kern.res_v0_4 m c (k 0) (k 2)
  rw [same m c V h] at e1
  have e2 := e1.trans (Ref.oppProbs V (k 0) (k 2)).symm
  exact (congrArg (Kern.last m c KernelIdeal.main_v0_4 : Vec Ideal KernelIdeal.S16384x1x18 .f32) hk).trans (e2.trans (congrArg (Ref.fin V (Proc.devRef .tc ReferenceIdeal.main_v79) : Vec Ideal KernelIdeal.S16384x1x18 .f32) hk.symm))

/-- The opponent head's mean entropies agree. -/
theorem same_oppEnt : @Eq (Vec Ideal KernelIdeal.S_ .f32) (Kern.last m c KernelIdeal.main_v0_5) (Ref.fin V (Proc.devRef .tc ReferenceIdeal.main_v110)) := by
  funext k
  have hk : k = ix0 := (place0 k)
  have e1 := Kern.res_v0_5 m c
  rw [same m c V h] at e1
  have e2 := e1.trans (Ref.oppDistEnt V).symm
  exact (congrArg (Kern.last m c KernelIdeal.main_v0_5 : Vec Ideal KernelIdeal.S_ .f32) hk).trans (e2.trans (congrArg (Ref.fin V (Proc.devRef .tc ReferenceIdeal.main_v110) : Vec Ideal KernelIdeal.S_ .f32) hk.symm))

omit h in
/-- Memories that agree on the arguments give both programs the same inputs. -/
theorem inputs (m' : (ℓ : Loc ReferenceIdeal.nD ReferenceIdeal.τ ReferenceIdeal.sig) → Buf (Elt Ideal) ℓ)
    (a0 : @Eq (Vec Ideal KernelIdeal.S16384x2x128 .f32) (m' ((c.tc : Thread ReferenceIdeal.nD ReferenceIdeal.τ).loc ReferenceIdeal.main_arg0)) (m ((c.tc : Thread KernelIdeal.nD KernelIdeal.τ).loc KernelIdeal.main_arg0)))
    (a3 : @Eq (Vec Ideal KernelIdeal.S128x64 .f32) (m' ((c.tc : Thread ReferenceIdeal.nD ReferenceIdeal.τ).loc ReferenceIdeal.main_arg3)) (m ((c.tc : Thread KernelIdeal.nD KernelIdeal.τ).loc KernelIdeal.main_arg3)))
    (a4 : @Eq (Vec Ideal KernelIdeal.S64 .f32) (m' ((c.tc : Thread ReferenceIdeal.nD ReferenceIdeal.τ).loc ReferenceIdeal.main_arg4)) (m ((c.tc : Thread KernelIdeal.nD KernelIdeal.τ).loc KernelIdeal.main_arg4)))
    (a5 : @Eq (Vec Ideal KernelIdeal.S64x18 .f32) (m' ((c.tc : Thread ReferenceIdeal.nD ReferenceIdeal.τ).loc ReferenceIdeal.main_arg5)) (m ((c.tc : Thread KernelIdeal.nD KernelIdeal.τ).loc KernelIdeal.main_arg5)))
    (a6 : @Eq (Vec Ideal KernelIdeal.S18 .f32) (m' ((c.tc : Thread ReferenceIdeal.nD ReferenceIdeal.τ).loc ReferenceIdeal.main_arg6)) (m ((c.tc : Thread KernelIdeal.nD KernelIdeal.τ).loc KernelIdeal.main_arg6)))
    (a7 : @Eq (Vec Ideal KernelIdeal.S64x18 .f32) (m' ((c.tc : Thread ReferenceIdeal.nD ReferenceIdeal.τ).loc ReferenceIdeal.main_arg7)) (m ((c.tc : Thread KernelIdeal.nD KernelIdeal.τ).loc KernelIdeal.main_arg7)))
    (a8 : @Eq (Vec Ideal KernelIdeal.S18 .f32) (m' ((c.tc : Thread ReferenceIdeal.nD ReferenceIdeal.τ).loc ReferenceIdeal.main_arg8)) (m ((c.tc : Thread KernelIdeal.nD KernelIdeal.τ).loc KernelIdeal.main_arg8)))
    (a9 : @Eq (Vec Ideal KernelIdeal.S259x64 .f32) (m' ((c.tc : Thread ReferenceIdeal.nD ReferenceIdeal.τ).loc ReferenceIdeal.main_arg9)) (m ((c.tc : Thread KernelIdeal.nD KernelIdeal.τ).loc KernelIdeal.main_arg9)))
    (a10 : @Eq (Vec Ideal KernelIdeal.S64 .f32) (m' ((c.tc : Thread ReferenceIdeal.nD ReferenceIdeal.τ).loc ReferenceIdeal.main_arg10)) (m ((c.tc : Thread KernelIdeal.nD KernelIdeal.τ).loc KernelIdeal.main_arg10)))
    (a11 : @Eq (Vec Ideal KernelIdeal.S64x576 .f32) (m' ((c.tc : Thread ReferenceIdeal.nD ReferenceIdeal.τ).loc ReferenceIdeal.main_arg11)) (m ((c.tc : Thread KernelIdeal.nD KernelIdeal.τ).loc KernelIdeal.main_arg11)))
    (a12 : @Eq (Vec Ideal KernelIdeal.S576 .f32) (m' ((c.tc : Thread ReferenceIdeal.nD ReferenceIdeal.τ).loc ReferenceIdeal.main_arg12)) (m ((c.tc : Thread KernelIdeal.nD KernelIdeal.τ).loc KernelIdeal.main_arg12)))
    (a13 : @Eq (Vec Ideal KernelIdeal.S18x16384 .f32) (m' ((c.tc : Thread ReferenceIdeal.nD ReferenceIdeal.τ).loc ReferenceIdeal.main_arg13)) (m ((c.tc : Thread KernelIdeal.nD KernelIdeal.τ).loc KernelIdeal.main_arg13)))
    (a14 : @Eq (Vec Ideal KernelIdeal.S18x16384 .f32) (m' ((c.tc : Thread ReferenceIdeal.nD ReferenceIdeal.τ).loc ReferenceIdeal.main_arg14)) (m ((c.tc : Thread KernelIdeal.nD KernelIdeal.τ).loc KernelIdeal.main_arg14))) :
    Kern.inp m c = Ref.inp (StableHlo.launchContents m' c) := by
  unfold Kern.inp Ref.inp
  congr 1
  · funext b a k; exact congrFun a0.symm (ix3 b a k)
  · funext k j; exact congrFun a3.symm (ix2 k j)
  · funext j; exact congrFun a4.symm (ix1 j)
  · funext k j; exact congrFun a5.symm (ix2 k j)
  · funext j; exact congrFun a6.symm (ix1 j)
  · funext k j; exact congrFun a7.symm (ix2 k j)
  · funext j; exact congrFun a8.symm (ix1 j)
  · funext k j; exact congrFun a9.symm (ix2 k j)
  · funext j; exact congrFun a10.symm (ix1 j)
  · funext k j; exact congrFun a11.symm (ix2 k j)
  · funext j; exact congrFun a12.symm (ix1 j)
  · funext a j b
    split
    · exact congrFun a13.symm (ix2 j b)
    · exact congrFun a14.symm (ix2 j b)

omit h in
/-- The kernel and the reference, over the extended reals, end with the same results. -/
theorem algebraic : algebraic_KernelIdeal_ReferenceIdeal (hKernelIdeal := Cert.KernelIdeal.Gen.facts) (hReferenceIdeal := Cert.ReferenceIdeal.Gen.facts) := by
  intro m g m' g' _ hagree
  have hI : ∀ c, Kern.inp m c = Ref.inp (StableHlo.launchContents m' c) := fun c => by
    obtain ⟨a0, -, -, a3, a4, a5, a6, a7, a8, a9, a10, a11, a12, a13, a14⟩ := hagree c
    exact inputs m c m' a0 a3 a4 a5 a6 a7 a8 a9 a10 a11 a12 a13 a14
  refine ⟨fun c => Kern.last m c KernelIdeal.main_v0_0, fun c => Kern.last m c KernelIdeal.main_v0_1, fun c => Kern.last m c KernelIdeal.main_v0_2,
    fun c => Kern.last m c KernelIdeal.main_v0_3, fun c => Kern.last m c KernelIdeal.main_v0_4, fun c => Kern.last m c KernelIdeal.main_v0_5,
    fun c => m ((c.tc : Thread KernelIdeal.nD KernelIdeal.τ).loc KernelIdeal.main_arg1), ?_, ?_⟩
  · refine θ_run_mono (θ_run_and (KernelIdeal.Gen.run_main m g) (KernelIdeal.Gen.unchanged m g)) fun r hr c => ?_
    have rest := (hr.1 c).2
    exact ⟨rest KernelIdeal.main_v0_0 (by decide), rest KernelIdeal.main_v0_1 (by decide), rest KernelIdeal.main_v0_2 (by decide),
      rest KernelIdeal.main_v0_3 (by decide), rest KernelIdeal.main_v0_4 (by decide), rest KernelIdeal.main_v0_5 (by decide),
      (hr.2 c).2.1, hr.2 c⟩
  · refine θ_run_mono (Ref.run m' g') fun r hr c => ?_
    obtain ⟨h0, h1, h2, h3, h4, h5, h6, h7, h8, h9, h10, h11, h12, h13, h14⟩ := Ref.args_kept (StableHlo.launchContents m' c)
    exact ⟨(hr c _).trans (same_values m c _ (hI c)).symm, (hr c _).trans (same_acts m c _ (hI c)).symm,
      (hr c _).trans (same_alps m c _ (hI c)).symm, (hr c _).trans (same_ent m c _ (hI c)).symm,
      (hr c _).trans (same_opp m c _ (hI c)).symm, (hr c _).trans (same_oppEnt m c _ (hI c)).symm,
      ((hr c _).trans h1).trans (hagree c).2.1,
      (hr c _).trans h0, (hr c _).trans h1, (hr c _).trans h2, (hr c _).trans h3, (hr c _).trans h4,
      (hr c _).trans h5, (hr c _).trans h6, (hr c _).trans h7, (hr c _).trans h8, (hr c _).trans h9,
      (hr c _).trans h10, (hr c _).trans h11, (hr c _).trans h12, (hr c _).trans h13, (hr c _).trans h14⟩

end Cert.Proof
-- ==== Proof.lean ====
module

public import proofs.«01_k».proof.Proof.Frames
public import proofs.«01_k».proof.Proof.Algebra

@[expose] public section

noncomputable section

namespace Cert.Proof

/-- Everything certified: the three programs run to their end and leave their arguments alone, the
ideal kernel is the kernel over the extended reals, and it computes what the reference computes. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof
